-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_weight [hPre_finite_weight : Cert.Pre_finite_weight.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_weight.fn (F := Ideal) (m ((c.tc : Thread Cert.Kernel4Ideal.nD Cert.Kernel4Ideal.τ).loc Cert.Kernel4Ideal.main_arg0))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_weight [hPre_finite_weight : Cert.Pre_finite_weight.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_weight.fn (F := Ideal) (m ((c.tc : Thread Cert.Reference4Ideal.nD Cert.Reference4Ideal.τ).loc Cert.Reference4Ideal.main_arg0))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Kernel4Ideal_pre_finite_weight [hKernel4Ideal : Cert.Kernel4Ideal.Facts] [hPre_finite_weight : Cert.Pre_finite_weight.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_weight m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Reference4Ideal_pre_finite_weight [hReference4Ideal : Cert.Reference4Ideal.Facts] [hPre_finite_weight : Cert.Pre_finite_weight.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_weight m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite_weight [hKernel4Ideal : Cert.Kernel4Ideal.Facts] [hReference4Ideal : Cert.Reference4Ideal.Facts] [hPre_finite_weight : Cert.Pre_finite_weight.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_weight m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v49)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v49) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_weight : Cert.Pre_finite_weight.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_weight (hKernel4Ideal := hKernel4Ideal) (hPre_finite_weight := hPre_finite_weight)
    ∧ quiescent_Reference4Ideal (hReference4Ideal := hReference4Ideal)
    ∧ quiescent_Reference4Ideal_pre_finite_weight (hReference4Ideal := hReference4Ideal) (hPre_finite_weight := hPre_finite_weight)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_weight (hKernel4Ideal := hKernel4Ideal) (hReference4Ideal := hReference4Ideal) (hPre_finite_weight := hPre_finite_weight)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S16384x5248 : Shape := ⟨2, ![16384, 5248]⟩
abbrev S4x128x256 : Shape := ⟨3, ![4, 128, 256]⟩
abbrev S16384x512 : Shape := ⟨2, ![16384, 512]⟩
abbrev S_ : Shape := ⟨0, ![]⟩

class Facts : Prop where
  slices_S16384x5248_S16384x512_0_4096 : S16384x5248.Slices ![0, 4096] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_

variable [Facts]

def fn {F : FTy → Type} [FloatOps F] (main_arg0 : FVec F S16384x5248 .f32) (main_arg1 : FVec F S4x128x256 .f32) : IVec S_ 1 :=
  let main_v0 : FVec F S16384x512 .f32 := (extractStridedSlice S16384x512 ![0, 4096] · slices_S16384x5248_S16384x512_0_4096) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S4x128x256 .f32 := Host.absf main_arg1
  let main_cst_0 : FVec F S_ .f32 := constant S_ .f32 0x7F800000#32
  let main_v6 : FVec F S4x128x256 .f32 := broadcastInDim S4x128x256 ![] bcast_S_S4x128x256 main_cst_0
  let main_v7 : IVec S4x128x256 1 := cmpf .olt main_v5 main_v6
  let main_c_1 : IVec S_ 1 := constantI S_ 1 1#1
  let main_v8 : IVec S_ 1 := (fun x v => Host.reduce IntOp.andi x v reducesTo_S4x128x256_S_d0_1_2 h_S_) main_v7 main_c_1
  let main_v9 : IVec S_ 1 := andi main_v4 main_v8
  main_v9
-- ==== Pre_finite_weight.lean ====
abbrev S1x4x128x128 : Shape := ⟨4, ![1, 4, 128, 128]⟩
abbrev S_ : Shape := ⟨0, ![]⟩

class Facts : Prop where
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  h_S_ : 0 < S_.numel

variable [Facts]

def fn {F : FTy → Type} [FloatOps F] (main_arg0 : FVec F S1x4x128x128 .f32) : IVec S_ 1 :=
  let main_v0 : FVec F S1x4x128x128 .f32 := Host.absf main_arg0
  let main_cst : FVec F S_ .f32 := constant S_ .f32 0x7F800000#32
  let main_v1 : FVec F S1x4x128x128 .f32 := broadcastInDim S1x4x128x128 ![] bcast_S_S1x4x128x128 main_cst
  let main_v2 : IVec S1x4x128x128 1 := cmpf .olt main_v0 main_v1
  let main_c : IVec S_ 1 := constantI S_ 1 1#1
  let main_v3 : IVec S_ 1 := (fun x v => Host.reduce IntOp.andi x v reducesTo_S1x4x128x128_S_d0_1_2_3 h_S_) main_v2 main_c
  main_v3
-- ==== Kernel.lean ====
abbrev S2x8192x1024 : Shape := ⟨3, ![2, 8192, 1024]⟩
abbrev S1x1024 : Shape := ⟨2, ![1, 1024]⟩
abbrev S1x1024x7168 : Shape := ⟨3, ![1, 1024, 7168]⟩
abbrev S1x3x1024 : Shape := ⟨3, ![1, 3, 1024]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S16384x1024 : Shape := ⟨2, ![16384, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S2048x1024 : Shape := ⟨2, ![2048, 1024]⟩
abbrev S128x8 : Shape := ⟨2, ![128, 8]⟩
abbrev S128x8x128 : Shape := ⟨3, ![128, 8, 128]⟩
abbrev S128x1024 : Shape := ⟨2, ![128, 1024]⟩
abbrev S512x1024 : Shape := ⟨2, ![512, 1024]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S1024x1024 : Shape := ⟨2, ![1024, 1024]⟩
abbrev S512x1 : Shape := ⟨2, ![512, 1]⟩
abbrev S512 : Shape := ⟨1, ![512]⟩
abbrev S1x128x128 : Shape := ⟨3, ![1, 128, 128]⟩
abbrev S128x128 : Shape := ⟨2, ![128, 128]⟩

abbrev nBuf : Space → Nat
  | .hbm => 28
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x7168, .f32⟩
  | .hbm, ⟨3, _⟩ => ⟨S1x3x1024, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S16384x1024, .f32⟩
  | .hbm, ⟨10, _⟩ => ⟨S1024, .f32⟩
  | .hbm, ⟨11, _⟩ => ⟨S1024x7168, .f32⟩
  | .hbm, ⟨12, _⟩ => ⟨S3x1024, .f32⟩
  | .hbm, ⟨13, _⟩ => ⟨S1024, .f32⟩
  | .hbm, ⟨14, _⟩ => ⟨S1024, .f32⟩
  | .hbm, ⟨15, _⟩ => ⟨S8x128x128, .f32⟩
  | .hbm, ⟨16, _⟩ => ⟨S8x128, .f32⟩
  | .hbm, ⟨17, _⟩ => ⟨S2048x1024, .f32⟩
  | .hbm, ⟨18, _⟩ => ⟨S128x8, .f32⟩
  | .hbm, ⟨19, _⟩ => ⟨S128x8x128, .f32⟩
  | .hbm, ⟨20, _⟩ => ⟨S128x1024, .f32⟩
  | .hbm, ⟨21, _⟩ => ⟨S8x128x128, .bf16⟩
  | .hbm, ⟨22, _⟩ => ⟨S1024x7168, .bf16⟩
  | .hbm, ⟨23, _⟩ => ⟨S2048x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x7168, .bf16⟩
  | .local _ .vmem, ⟨8, _⟩ => ⟨S3x1024, .f32⟩
  | .local _ .vmem, ⟨9, _⟩ => ⟨S1x1024, .f32⟩
  | .local _ .vmem, ⟨10, _⟩ => ⟨S1x1024, .f32⟩
  | .local _ .vmem, ⟨11, _⟩ => ⟨S8x128x128, .bf16⟩
  | .local _ .vmem, ⟨12, _⟩ => ⟨S128x1024, .f32⟩
  | .local _ .vmem, ⟨13, _⟩ => ⟨S2048x1024, .bf16⟩
  | .local _ .vmem, ⟨14, _⟩ => ⟨S512x1024, .f32⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2x8192x1024 : Shape := ⟨3, ![2, 8192, 1024]⟩
abbrev S1x1024 : Shape := ⟨2, ![1, 1024]⟩
abbrev S1x1024x7168 : Shape := ⟨3, ![1, 1024, 7168]⟩
abbrev S1x3x1024 : Shape := ⟨3, ![1, 3, 1024]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S2048x1024 : Shape := ⟨2, ![2048, 1024]⟩
abbrev S2x8192x7168 : Shape := ⟨3, ![2, 8192, 7168]⟩
abbrev S2x8193x1024 : Shape := ⟨3, ![2, 8193, 1024]⟩
abbrev S2x64x128x8x128 : Shape := ⟨5, ![2, 64, 128, 8, 128]⟩
abbrev S8x2x64x128x128 : Shape := ⟨5, ![8, 2, 64, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2x8192x2048 : Shape := ⟨3, ![2, 8192, 2048]⟩
abbrev S16384x1024 : Shape := ⟨2, ![16384, 1024]⟩

abbrev nBuf : Space → Nat
  | .hbm => 131
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x7168, .f32⟩
  | 3 => ⟨S1x3x1024, .f32⟩
  | 4 => ⟨S1x1024, .f32⟩
  | 5 => ⟨S1x1024, .f32⟩
  | 6 => ⟨S1x8x128x128, .f32⟩
  | 7 => ⟨S1x8x128, .f32⟩
  | 8 => ⟨S1x2048x1024, .f32⟩
  | 9 => ⟨S1024, .f32⟩
  | 10 => ⟨S2x8192x1024, .f32⟩
  | 11 => ⟨S_, .f32⟩
  | 12 => ⟨S2x8192, .f32⟩
  | 13 => ⟨S2x8192x1, .f32⟩
  | 14 => ⟨S_, .f32⟩
  | 15 => ⟨S2x8192x1, .f32⟩
  | 16 => ⟨S2x8192x1, .f32⟩
  | 17 => ⟨S_, .f32⟩
  | 18 => ⟨S2x8192x1, .f32⟩
  | 19 => ⟨S2x8192x1, .f32⟩
  | 20 => ⟨S2x8192x1, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | 26 => ⟨S1024x7168, .f32⟩
  | 27 => ⟨S3x1024, .f32⟩
  | 28 => ⟨S1024, .f32⟩
  | 29 => ⟨S1024, .f32⟩
  | 30 => ⟨S8x128x128, .f32⟩
  | 31 => ⟨S8x128, .f32⟩
  | 32 => ⟨S2048x1024, .f32⟩
  | 33 => ⟨S2x8192x7168, .f32⟩
  | 34 => ⟨S2x8192x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S2x8192x1024, .f32⟩
  | 40 => ⟨S2x8192x1024, .f32⟩
  | 41 => ⟨S2x8192x1024, .f32⟩
  | 42 => ⟨S1x1024, .f32⟩
  | 43 => ⟨S1024, .f32⟩
  | 44 => ⟨S_, .i32⟩
  | 45 => ⟨S_, .f32⟩
  | 46 => ⟨S2x8193x1024, .f32⟩
  | 47 => ⟨S2x8192x1024, .f32⟩
  | 48 => ⟨S1x1x1024, .f32⟩
  | 49 => ⟨S2x8192x1024, .f32⟩
  | 50 => ⟨S2x8192x1024, .f32⟩
  | 51 => ⟨S1x1024, .f32⟩
  | 52 => ⟨S1024, .f32⟩
  | 53 => ⟨S1x1x1024, .f32⟩
  | 54 => ⟨S2x8192x1024, .f32⟩
  | 55 => ⟨S2x8192x1024, .f32⟩
  | 56 => ⟨S2x8192x1024, .f32⟩
  | 57 => ⟨S1x1024, .f32⟩
  | 58 => ⟨S1024, .f32⟩
  | 59 => ⟨S_, .i32⟩
  | 60 => ⟨S_, .f32⟩
  | 61 => ⟨S2x8193x1024, .f32⟩
  | 62 => ⟨S2x8192x1024, .f32⟩
  | 63 => ⟨S1x1x1024, .f32⟩
  | 64 => ⟨S2x8192x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S2x8192x1024, .f32⟩
  | 70 => ⟨S_, .f32⟩
  | 71 => ⟨S2x8192x1024, .f32⟩
  | 72 => ⟨S2x8192x1024, .f32⟩
  | 73 => ⟨S_, .f32⟩
  | 74 => ⟨S2x8192x1024, .f32⟩
  | 75 => ⟨S2x8192x1024, .f32⟩
  | 76 => ⟨S2x8192x1024, .f32⟩
  | 77 => ⟨S2x8192x1024, .f32⟩
  | 78 => ⟨S_, .f32⟩
  | 79 => ⟨S2x8192, .f32⟩
  | 80 => ⟨S2x8192x1, .f32⟩
  | 81 => ⟨S_, .f32⟩
  | 82 => ⟨S2x8192x1, .f32⟩
  | 83 => ⟨S2x8192x1, .f32⟩
  | 84 => ⟨S2x8192x1024, .f32⟩
  | 85 => ⟨S2x8192x1024, .f32⟩
  | 86 => ⟨S2x8192x1024, .f32⟩
  | 87 => ⟨S_, .f32⟩
  | 88 => ⟨S2x8192, .f32⟩
  | 89 => ⟨S2x8192x1, .f32⟩
  | 90 => ⟨S_, .f32⟩
  | 91 => ⟨S2x8192x1, .f32⟩
  | 92 => ⟨S2x8192x1, .f32⟩
  | 93 => ⟨S2x8192x1024, .f32⟩
  | 94 => ⟨S2x8192x1024, .f32⟩
  | 95 => ⟨S_, .f32⟩
  | 96 => ⟨S2x8192x1, .f32⟩
  | 97 => ⟨S2x8192x1, .f32⟩
  | 98 => ⟨S2x8192x1, .f32⟩
  | 99 => ⟨S2x8192x1024, .f32⟩
  | 100 => ⟨S2x8192x1024, .f32⟩
  | 101 => ⟨S1x1x1024, .f32⟩
  | 102 => ⟨S2x8192x1024, .f32⟩
  | 103 => ⟨S2x8192x1024, .f32⟩
  | 104 => ⟨S1x1x1024, .f32⟩
  | 105 => ⟨S2x8192x1024, .f32⟩
  | 106 => ⟨S2x8192x1024, .f32⟩
  | 107 => ⟨S2x64x128x8x128, .f32⟩
  | 108 => ⟨S8x2x64x128x128, .f32⟩
  | 109 => ⟨S2x64x128x8x128, .f32⟩
  | 110 => ⟨S128x8, .f32⟩
  | 111 => ⟨S128x8x1, .f32⟩
  | 112 => ⟨S1x1x128x8x1, .f32⟩
  | 113 => ⟨S2x64x128x8x128, .f32⟩
  | 114 => ⟨S2x64x128x8x128, .f32⟩
  | 115 => ⟨S2x8192x1024, .f32⟩
  | 116 => ⟨S2x8192x1024, .f32⟩
  | 117 => ⟨S2x8192x1024, .f32⟩
  | 118 => ⟨S2x8192x1024, .f32⟩
  | 119 => ⟨S_, .f32⟩
  | 120 => ⟨S2x8192x1024, .f32⟩
  | 121 => ⟨S2x8192x1024, .f32⟩
  | 122 => ⟨S_, .f32⟩
  | 123 => ⟨S2x8192x1024, .f32⟩
  | 124 => ⟨S2x8192x1024, .f32⟩
  | 125 => ⟨S2x8192x1024, .f32⟩
  | 126 => ⟨S2x8192x1024, .f32⟩
  | 127 => ⟨S2x8192x2048, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_2 : Ref sig .tc := ⟨.hbm, 59, rfl⟩
abbrev main_call1_v0 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v52 : Ref sig .tc := ⟨.hbm, 76, rfl⟩
abbrev main_v53 : Ref sig .tc := ⟨.hbm, 77, rfl⟩
abbrev main_cst_3 : Ref sig .tc := ⟨.hbm, 78, rfl⟩
abbrev main_v54 : Ref sig .tc := ⟨.hbm, 79, rfl⟩
abbrev main_v55 : Ref sig .tc := ⟨.hbm, 80, rfl⟩
abbrev main_cst_4 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_5 : Ref sig .tc := ⟨.hbm, 87, rfl⟩
abbrev main_v61 : Ref sig .tc := ⟨.hbm, 88, rfl⟩
abbrev main_v62 : Ref sig .tc := ⟨.hbm, 89, rfl⟩
abbrev main_cst_6 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_7 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1x1024x5248 : Shape := ⟨3, ![1, 1024, 5248]⟩
abbrev S1024 : Shape := ⟨1, ![1024]⟩
abbrev S1024x5248 : Shape := ⟨2, ![1024, 5248]⟩
abbrev S1024x128 : Shape := ⟨2, ![1024, 128]⟩
abbrev S1024x2048 : Shape := ⟨2, ![1024, 2048]⟩
abbrev S1024x3200 : Shape := ⟨2, ![1024, 3200]⟩
abbrev S16384x5248 : Shape := ⟨2, ![16384, 5248]⟩
abbrev S512x1024 : Shape := ⟨2, ![512, 1024]⟩
abbrev S512x5248 : Shape := ⟨2, ![512, 5248]⟩
abbrev S512 : Shape := ⟨1, ![512]⟩
abbrev S512x1 : Shape := ⟨2, ![512, 1]⟩

abbrev nBuf : Space → Nat
  | .hbm => 37
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5248, .f32⟩
  | .hbm, ⟨3, _⟩ => ⟨S1024, .f32⟩
  | .hbm, ⟨4, _⟩ => ⟨S1024x5248, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S1024x2048, .f32⟩
  | .hbm, ⟨30, _⟩ => ⟨S1024x128, .f32⟩
  | .hbm, ⟨31, _⟩ => ⟨S1024x2048, .f32⟩
  | .hbm, ⟨32, _⟩ => ⟨S1024x3200, .f32⟩
  | .hbm, ⟨33, _⟩ => ⟨S1024x5248, .f32⟩
  | .hbm, ⟨34, _⟩ => ⟨S1024x5248, .bf16⟩
  | .hbm, ⟨35, _⟩ => ⟨S1x1024, .f32⟩
  | .hbm, ⟨36, _⟩ => ⟨S16384x5248, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5248, .bf16⟩
  | .local _ .vmem, ⟨4, _⟩ => ⟨S512x5248, .f32⟩
  | .local _ .vmem, ⟨5, _⟩ => ⟨S512x5248, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5248 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S16384x1024 : Shape := ⟨2, ![16384, 1024]⟩
abbrev S1x1024 : Shape := ⟨2, ![1, 1024]⟩
abbrev S1x1024x5248 : Shape := ⟨3, ![1, 1024, 5248]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5248 : Shape := ⟨2, ![1024, 5248]⟩
abbrev S16384x5248 : Shape := ⟨2, ![16384, 5248]⟩
abbrev S16384x3072 : Shape := ⟨2, ![16384, 3072]⟩
abbrev S16384x3x8x128 : Shape := ⟨4, ![16384, 3, 8, 128]⟩
abbrev S16384x8x3x128 : Shape := ⟨4, ![16384, 8, 3, 128]⟩
abbrev S16384x2048 : Shape := ⟨2, ![16384, 2048]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5248, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x5248, .f32⟩
  | .hbm, ⟨21, _⟩ => ⟨S16384x5248, .f32⟩
  | .hbm, ⟨22, _⟩ => ⟨S16384x3072, .f32⟩
  | .hbm, ⟨23, _⟩ => ⟨S16384x3x8x128, .f32⟩
  | .hbm, ⟨24, _⟩ => ⟨S16384x8x3x128, .f32⟩
  | .hbm, ⟨25, _⟩ => ⟨S16384x3072, .f32⟩
  | .hbm, ⟨26, _⟩ => ⟨S16384x2048, .f32⟩
  | .hbm, ⟨27, _⟩ => ⟨S16384x128, .f32⟩
  | .hbm, ⟨28, _⟩ => ⟨S16384x5248, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel3.lean ====
abbrev S16384x1024 : Shape := ⟨2, ![16384, 1024]⟩
abbrev S16384x5248 : Shape := ⟨2, ![16384, 5248]⟩
abbrev S16384x512 : Shape := ⟨2, ![16384, 512]⟩
abbrev S1x1024 : Shape := ⟨2, ![1, 1024]⟩
abbrev S1x1536x1024 : Shape := ⟨3, ![1, 1536, 1024]⟩
abbrev S1024 : Shape := ⟨1, ![1024]⟩
abbrev S1536x1024 : Shape := ⟨2, ![1536, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S512x1024 : Shape := ⟨2, ![512, 1024]⟩
abbrev S512x512 : Shape := ⟨2, ![512, 512]⟩
abbrev S512x128 : Shape := ⟨2, ![512, 128]⟩
abbrev S1024x1024 : Shape := ⟨2, ![1024, 1024]⟩
abbrev S512 : Shape := ⟨1, ![512]⟩
abbrev S512x1 : Shape := ⟨2, ![512, 1]⟩

abbrev nBuf : Space → Nat
  | .hbm => 29
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x5248, .f32⟩
  | .hbm, ⟨5, _⟩ => ⟨S16384x512, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1x1536x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1536x1024, .f32⟩
  | .hbm, ⟨14, _⟩ => ⟨S1536x1024, .bf16⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S1x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S128x128, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S128x128, .bf16⟩
  | .local _ .vmem, ⟨19, _⟩ => ⟨S1536x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S16384x5248 : Shape := ⟨2, ![16384, 5248]⟩
abbrev S16384x512 : Shape := ⟨2, ![16384, 512]⟩
abbrev S1x1024 : Shape := ⟨2, ![1, 1024]⟩
abbrev S1x1536x1024 : Shape := ⟨3, ![1, 1536, 1024]⟩
abbrev S1024 : Shape := ⟨1, ![1024]⟩
abbrev S16384x16x64 : Shape := ⟨3, ![16384, 16, 64]⟩
abbrev S16x64 : Shape := ⟨2, ![16, 64]⟩
abbrev S_ : Shape := ⟨0, ![]⟩
abbrev S16384x16 : Shape := ⟨2, ![16384, 16]⟩
abbrev S16384x16x1 : Shape := ⟨3, ![16384, 16, 1]⟩
abbrev S1x16x64 : Shape := ⟨3, ![1, 16, 64]⟩
abbrev S16384x1536 : Shape := ⟨2, ![16384, 1536]⟩
abbrev S1536x1024 : Shape := ⟨2, ![1536, 1024]⟩
abbrev S16384 : Shape := ⟨1, ![16384]⟩
abbrev S16384x1 : Shape := ⟨2, ![16384, 1]⟩

abbrev nBuf : Space → Nat
  | .hbm => 97
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x5248, .f32⟩
  | .hbm, ⟨5, _⟩ => ⟨S16384x512, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1x1536x1024, .f32⟩
  | .hbm, ⟨10, _⟩ => ⟨S1024, .f32⟩
  | .hbm, ⟨11, _⟩ => ⟨S16384x1024, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x16x64, .f32⟩
  | .hbm, ⟨17, _⟩ => ⟨S1024, .f32⟩
  | .hbm, ⟨18, _⟩ => ⟨S16x64, .f32⟩
  | .hbm, ⟨19, _⟩ => ⟨S1024, .f32⟩
  | .hbm, ⟨20, _⟩ => ⟨S16x64, .f32⟩
  | .hbm, ⟨21, _⟩ => ⟨S_, .f32⟩
  | .hbm, ⟨22, _⟩ => ⟨S16384x16, .f32⟩
  | .hbm, ⟨23, _⟩ => ⟨S16384x16x1, .f32⟩
  | .hbm, ⟨24, _⟩ => ⟨S_, .f32⟩
  | .hbm, ⟨25, _⟩ => ⟨S16384x16x1, .f32⟩
  | .hbm, ⟨26, _⟩ => ⟨S16384x16x1, .f32⟩
  | .hbm, ⟨27, _⟩ => ⟨S16384x16x64, .f32⟩
  | .hbm, ⟨28, _⟩ => ⟨S16384x16x64, .f32⟩
  | .hbm, ⟨29, _⟩ => ⟨S16384x16x64, .f32⟩
  | .hbm, ⟨30, _⟩ => ⟨S_, .f32⟩
  | .hbm, ⟨31, _⟩ => ⟨S16384x16, .f32⟩
  | .hbm, ⟨32, _⟩ => ⟨S16384x16x1, .f32⟩
  | .hbm, ⟨33, _⟩ => ⟨S_, .f32⟩
  | .hbm, ⟨34, _⟩ => ⟨S16384x16x1, .f32⟩
  | .hbm, ⟨35, _⟩ => ⟨S16384x16x1, .f32⟩
  | .hbm, ⟨36, _⟩ => ⟨S16384x16x64, .f32⟩
  | .hbm, ⟨37, _⟩ => ⟨S16384x16x64, .f32⟩
  | .hbm, ⟨38, _⟩ => ⟨S_, .f32⟩
  | .hbm, ⟨39, _⟩ => ⟨S16384x16x1, .f32⟩
  | .hbm, ⟨40, _⟩ => ⟨S16384x16x1, .f32⟩
  | .hbm, ⟨41, _⟩ => ⟨S16384x16x1, .f32⟩
  | .hbm, ⟨42, _⟩ => ⟨S16384x16x64, .f32⟩
  | .hbm, ⟨43, _⟩ => ⟨S16384x16x64, .f32⟩
  | .hbm, ⟨44, _⟩ => ⟨S1x16x64, .f32⟩
  | .hbm, ⟨45, _⟩ => ⟨S16384x16x64, .f32⟩
  | .hbm, ⟨46, _⟩ => ⟨S16384x16x64, .f32⟩
  | .hbm, ⟨47, _⟩ => ⟨S1x16x64, .f32⟩
  | .hbm, ⟨48, _⟩ => ⟨S16384x16x64, .f32⟩
  | .hbm, ⟨49, _⟩ => ⟨S16384x16x64, .f32⟩
  | .hbm, ⟨50, _⟩ => ⟨S16384x1024, .f32⟩
  | .hbm, ⟨51, _⟩ => ⟨S16384x16x64, .f32⟩
  | .hbm, ⟨52, _⟩ => ⟨S16384x16x64, .f32⟩
  | .hbm, ⟨53, _⟩ => ⟨S16384x1024, .f32⟩
  | .hbm, ⟨54, _⟩ => ⟨S16384x16x64, .f32⟩
  | .hbm, ⟨55, _⟩ => ⟨S16384x16x64, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x512, .f32⟩
  | .hbm, ⟨68, _⟩ => ⟨S16384x512, .f32⟩
  | .hbm, ⟨69, _⟩ => ⟨S_, .f32⟩
  | .hbm, ⟨70, _⟩ => ⟨S16384x512, .f32⟩
  | .hbm, ⟨71, _⟩ => ⟨S16384x512, .f32⟩
  | .hbm, ⟨72, _⟩ => ⟨S_, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x1536, .f32⟩
  | .hbm, ⟨78, _⟩ => ⟨S1536x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_4 : Ref sig .tc := ⟨.hbm, 82, rfl⟩
abbrev main_v50 : Ref sig .tc := ⟨.hbm, 83, rfl⟩
abbrev main_v51 : Ref sig .tc := ⟨.hbm, 84, rfl⟩
abbrev main_cst_5 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Kernel4.lean ====
abbrev S1x4x128x128 : Shape := ⟨4, ![1, 4, 128, 128]⟩
abbrev S4x128x128 : Shape := ⟨3, ![4, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x128x256 : Shape := ⟨3, ![4, 128, 256]⟩
abbrev S1x128x128 : Shape := ⟨3, ![1, 128, 128]⟩
abbrev S128x256 : Shape := ⟨2, ![128, 256]⟩
abbrev S1x128x256 : Shape := ⟨3, ![1, 128, 256]⟩

abbrev nBuf : Space → Nat
  | .hbm => 25
  | .vmem => 4
  | .smem => 0
  | _ => 0

abbrev bufTy : (tb : Table) → Fin (tcTables nBuf tb) → BufTy
  | .hbm, ⟨0, _⟩ => ⟨S1x4x128x128, .f32⟩
  | .hbm, ⟨1, _⟩ => ⟨S4x128x128, .f32⟩
  | .hbm, ⟨2, _⟩ => ⟨S128, .i32⟩
  | .hbm, ⟨3, _⟩ => ⟨S128x1, .i32⟩
  | .hbm, ⟨4, _⟩ => ⟨S128, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S4x128x256, .f32⟩
  | .local _ .vmem, ⟨0, _⟩ => ⟨S128x128, .f32⟩
  | .local _ .vmem, ⟨1, _⟩ => ⟨S128x128, .f32⟩
  | .local _ .vmem, ⟨2, _⟩ => ⟨S4x128x128, .f32⟩
  | .local _ .vmem, ⟨3, _⟩ => ⟨S4x128x256, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference4Ideal.lean ====
abbrev S1x4x128x128 : Shape := ⟨4, ![1, 4, 128, 128]⟩
abbrev S4x128x128 : Shape := ⟨3, ![4, 128, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S4x128x256 : Shape := ⟨3, ![4, 128, 256]⟩

abbrev nBuf : Space → Nat
  | .hbm => 35
  | .vmem => 0
  | .smem => 0
  | _ => 0

abbrev bufTy : (tb : Table) → Fin (tcTables nBuf tb) → BufTy
  | .hbm, ⟨0, _⟩ => ⟨S1x4x128x128, .f32⟩
  | .hbm, ⟨1, _⟩ => ⟨S4x128x128, .f32⟩
  | .hbm, ⟨2, _⟩ => ⟨S128, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S128x1, .i32⟩
  | .hbm, ⟨8, _⟩ => ⟨S1x128, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S4x128x128, .f32⟩
  | .hbm, ⟨23, _⟩ => ⟨S4x128x128, .f32⟩
  | .hbm, ⟨24, _⟩ => ⟨S_, .f32⟩
  | .hbm, ⟨25, _⟩ => ⟨S4x128x128, .f32⟩
  | .hbm, ⟨26, _⟩ => ⟨S4x128x128, .f32⟩
  | .hbm, ⟨27, _⟩ => ⟨S128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S4x128x256, .f32⟩
  | _, _ => ⟨S1x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel5.lean ====
abbrev S16384x5248 : Shape := ⟨2, ![16384, 5248]⟩
abbrev S4x128x256 : Shape := ⟨3, ![4, 128, 256]⟩
abbrev S2x8192x5248 : Shape := ⟨3, ![2, 8192, 5248]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x1x128 : Shape := ⟨3, ![1, 1, 128]⟩
abbrev S64x1x1 : Shape := ⟨3, ![64, 1, 1]⟩
abbrev S1x128x1 : Shape := ⟨3, ![1, 128, 1]⟩
abbrev S64x128x1 : Shape := ⟨3, ![64, 128, 1]⟩
abbrev S64x128x128 : Shape := ⟨3, ![64, 128, 128]⟩
abbrev S64x128x256 : Shape := ⟨3, ![64, 128, 256]⟩
abbrev S2x8192x512 : Shape := ⟨3, ![2, 8192, 512]⟩
abbrev S1x8192x128 : Shape := ⟨3, ![1, 8192, 128]⟩
abbrev S1x128x256 : Shape := ⟨3, ![1, 128, 256]⟩
abbrev S8704x128 : Shape := ⟨2, ![8704, 128]⟩
abbrev S128x256 : Shape := ⟨2, ![128, 256]⟩
abbrev S1x128x128 : Shape := ⟨3, ![1, 128, 128]⟩
abbrev S256x128 : Shape := ⟨2, ![256, 128]⟩
abbrev S1x64x128 : Shape := ⟨3, ![1, 64, 128]⟩

abbrev nBuf : Space → Nat
  | .hbm => 61
  | .vmem => 12
  | .smem => 0
  | _ => 0

abbrev bufTy : (tb : Table) → Fin (tcTables nBuf tb) → BufTy
  | .hbm, ⟨0, _⟩ => ⟨S16384x5248, .f32⟩
  | .hbm, ⟨1, _⟩ => ⟨S4x128x256, .f32⟩
  | .hbm, ⟨2, _⟩ => ⟨S2x8192x5248, .f32⟩
  | .hbm, ⟨3, _⟩ => ⟨S64, .i32⟩
  | .hbm, ⟨4, _⟩ => ⟨S64x1, .i32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x128, .f32⟩
  | .hbm, ⟨26, _⟩ => ⟨S64x64, .f32⟩
  | .hbm, ⟨27, _⟩ => ⟨S64x128, .f32⟩
  | .hbm, ⟨28, _⟩ => ⟨S128x128, .f32⟩
  | .hbm, ⟨29, _⟩ => ⟨S128, .i32⟩
  | .hbm, ⟨30, _⟩ => ⟨S1x1x128, .i32⟩
  | .hbm, ⟨31, _⟩ => ⟨S64, .i32⟩
  | .hbm, ⟨32, _⟩ => ⟨S64x1x1, .i32⟩
  | .hbm, ⟨33, _⟩ => ⟨S128, .i32⟩
  | .hbm, ⟨34, _⟩ => ⟨S1x128x1, .i32⟩
  | .hbm, ⟨35, _⟩ => ⟨S_, .i32⟩
  | .hbm, ⟨36, _⟩ => ⟨S1x128x1, .i32⟩
  | .hbm, ⟨37, _⟩ => ⟨S1x128x1, .i32⟩
  | .hbm, ⟨38, _⟩ => ⟨S64x128x1, .i32⟩
  | .hbm, ⟨39, _⟩ => ⟨S64x128x1, .i32⟩
  | .hbm, ⟨40, _⟩ => ⟨S64x128x1, .i32⟩
  | .hbm, ⟨41, _⟩ => ⟨S64x128x128, .i32⟩
  | .hbm, ⟨42, _⟩ => ⟨S64x128x128, .i32⟩
  | .hbm, ⟨43, _⟩ => ⟨S64x128x128, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S64x128x128, .i32⟩
  | .hbm, ⟨50, _⟩ => ⟨S64x128x128, .i32⟩
  | .hbm, ⟨51, _⟩ => ⟨S64x128x128, .f32⟩
  | .hbm, ⟨52, _⟩ => ⟨S64x128x128, .f32⟩
  | .hbm, ⟨53, _⟩ => ⟨S64x128x128, .f32⟩
  | .hbm, ⟨54, _⟩ => ⟨S_, .f32⟩
  | .hbm, ⟨55, _⟩ => ⟨S64x128x128, .f32⟩
  | .hbm, ⟨56, _⟩ => ⟨S64x128x128, .f32⟩
  | .hbm, ⟨57, _⟩ => ⟨S64x128x128, .f32⟩
  | .hbm, ⟨58, _⟩ => ⟨S64x128x128, .f32⟩
  | .hbm, ⟨59, _⟩ => ⟨S64x128x256, .f32⟩
  | .hbm, ⟨60, _⟩ => ⟨S2x8192x512, .f32⟩
  | .local _ .vmem, ⟨0, _⟩ => ⟨S1x8192x128, .f32⟩
  | .local _ .vmem, ⟨1, _⟩ => ⟨S1x8192x128, .f32⟩
  | .local _ .vmem, ⟨2, _⟩ => ⟨S1x128x256, .f32⟩
  | .local _ .vmem, ⟨3, _⟩ => ⟨S1x128x256, .f32⟩
  | .local _ .vmem, ⟨4, _⟩ => ⟨S128x128, .f32⟩
  | .local _ .vmem, ⟨5, _⟩ => ⟨S64x128x256, .f32⟩
  | .local _ .vmem, ⟨6, _⟩ => ⟨S1x8192x128, .f32⟩
  | .local _ .vmem, ⟨7, _⟩ => ⟨S1x8192x128, .f32⟩
  | .local _ .vmem, ⟨8, _⟩ => ⟨S8704x128, .f32⟩
  | .local _ .vmem, ⟨9, _⟩ => ⟨S8704x128, .f32⟩
  | .local _ .vmem, ⟨10, _⟩ => ⟨S8704x128, .f32⟩
  | .local _ .vmem, ⟨11, _⟩ => ⟨S8704x128, .f32⟩
  | _, _ => ⟨S16384x5248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_c_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_16 : BitVec 32 := 128#32
  let v10 : BitVec 32 := Scalar.muli arg11 c128_i32_16
  v10
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c136_i32 : BitVec 32 := 136#32
  let v12 : BitVec 32 := Scalar.muli arg11 c136_i32
  v12
def k0_off1 (k0_t1 : Fin k0_t1_loop.trips) : Fin 3 → Nat :=
  let c0_17 : Index := 0#32
  let c0_i32 : BitVec 32 := 0#32
  let c1_i32 : BitVec 32 := 1#32
  let arg11 : BitVec 32 := Scf.iv c0_i32 c1_i32 k0_t1
  let c128_i32_16 : BitVec 32 := 128#32
  let v10 : BitVec 32 := Scalar.muli arg11 c128_i32_16
  let v11 : BitVec 32 := v10
  let v14 : Index := Scalar.indexCast v11
  let c0_18 : Index := 0#32
  ![0, v14.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c136_i32 : BitVec 32 := 136#32
  let v12 : BitVec 32 := Scalar.muli arg11 c136_i32
  let v13 : BitVec 32 := v12
  let v20 : Index := Scalar.indexCast v13
  let c0_19 : Index := 0#32
  ![v20.toNat, 0]
@[reducible] def k0_t2_loop : Scf.Loop 32 :=
  let c0_i32_5 : BitVec 32 := 0#32
  let c128_i32 : BitVec 32 := 128#32
  let v7 : BitVec 32 := Scalar.addi c0_i32_5 c128_i32
  let c1_i32_6 : BitVec 32 := 1#32
  ⟨c0_i32_5, v7, c1_i32_6⟩
def k0_off3 (k0_t2 : Fin k0_t2_loop.trips) : Fin 2 → Nat :=
  let c0_i32_5 : BitVec 32 := 0#32
  let c1_i32_6 : BitVec 32 := 1#32
  let arg11 : BitVec 32 := Scf.iv c0_i32_5 c1_i32_6 k0_t2
  let v10 : Index := Scalar.indexCast arg11
  let c0_16 : Index := 0#32
  ![v10.toNat, 0]
@[reducible] def k0_t3_loop : Scf.Loop 32 :=
  let c0_i32_8 : BitVec 32 := 0#32
  let c64_i32_9 : BitVec 32 := 64#32
  let v8 : BitVec 32 := Scalar.addi c0_i32_8 c64_i32_9
  let c1_i32_10 : BitVec 32 := 1#32
  ⟨c0_i32_8, v8, c1_i32_10⟩
def k0_mult3 (k0_t3 : Fin k0_t3_loop.trips) : BitVec 32 :=
  let c0_i32_8 : BitVec 32 := 0#32
  let c1_i32_10 : BitVec 32 := 1#32
  let arg11 : BitVec 32 := Scf.iv c0_i32_8 c1_i32_10 k0_t3
  let c136_i32 : BitVec 32 := 136#32
  let v10 : BitVec 32 := Scalar.muli arg11 c136_i32
  v10
def k0_off4 (k0_t3 : Fin k0_t3_loop.trips) : Fin 2 → Nat :=
  let c0_i32_8 : BitVec 32 := 0#32
  let c1_i32_10 : BitVec 32 := 1#32
  let arg11 : BitVec 32 := Scf.iv c0_i32_8 c1_i32_10 k0_t3
  let c136_i32 : BitVec 32 := 136#32
  let v10 : BitVec 32 := Scalar.muli arg11 c136_i32
  let v11 : BitVec 32 := v10
  let v12 : Index := Scalar.indexCast v11
  let c0_16 : Index := 0#32
  ![v12.toNat, 0]
def k0_off5 (k0_t3 : Fin k0_t3_loop.trips) : Fin 3 → Nat :=
  let c0_i32_8 : BitVec 32 := 0#32
  let c1_i32_10 : BitVec 32 := 1#32
  let arg11 : BitVec 32 := Scf.iv c0_i32_8 c1_i32_10 k0_t3
  let v17 : Index := Scalar.indexCast arg11
  let c0_18 : Index := 0#32
  let c0_19 : Index := 0#32
  ![v17.toNat, 0, 0]
@[reducible] def k0_t4_loop : Scf.Loop 32 :=
  let c0_i32_12 : BitVec 32 := 0#32
  let c128_i32_13 : BitVec 32 := 128#32
  let v9 : BitVec 32 := Scalar.addi c0_i32_12 c128_i32_13
  let c1_i32_14 : BitVec 32 := 1#32
  ⟨c0_i32_12, v9, c1_i32_14⟩
def k0_mult4 (k0_t4 : Fin k0_t4_loop.trips) : BitVec 32 :=
  let c0_i32_12 : BitVec 32 := 0#32
  let c1_i32_14 : BitVec 32 := 1#32
  let arg11 : BitVec 32 := Scf.iv c0_i32_12 c1_i32_14 k0_t4
  let c64_i32_16 : BitVec 32 := 64#32
  let v10 : BitVec 32 := Scalar.muli arg11 c64_i32_16
  v10
def k0_off6 (k0_t4 : Fin k0_t4_loop.trips) : Fin 2 → Nat :=
  let c0_i32_12 : BitVec 32 := 0#32
  let c1_i32_14 : BitVec 32 := 1#32
  let arg11 : BitVec 32 := Scf.iv c0_i32_12 c1_i32_14 k0_t4
  let v12 : Index := Scalar.indexCast arg11
  let c0_17 : Index := 0#32
  ![v12.toNat, 0]
def k0_off7 (k0_t4 : Fin k0_t4_loop.trips) : Fin 3 → Nat :=
  let c0_18 : Index := 0#32
  let c0_i32_12 : BitVec 32 := 0#32
  let c1_i32_14 : BitVec 32 := 1#32
  let arg11 : BitVec 32 := Scf.iv c0_i32_12 c1_i32_14 k0_t4
  let c64_i32_16 : BitVec 32 := 64#32
  let v10 : BitVec 32 := Scalar.muli arg11 c64_i32_16
  let v11 : BitVec 32 := v10
  let v14 : Index := Scalar.indexCast v11
  let c0_19 : Index := 0#32
  ![0, v14.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x5248 : Shape := ⟨2, ![16384, 5248]⟩
abbrev S4x128x256 : Shape := ⟨3, ![4, 128, 256]⟩
abbrev S16384x512 : Shape := ⟨2, ![16384, 512]⟩
abbrev S2x8192x4x128 : Shape := ⟨4, ![2, 8192, 4, 128]⟩
abbrev S4x256x2x8192 : Shape := ⟨4, ![4, 256, 2, 8192]⟩
abbrev S2x8192x4x256 : Shape := ⟨4, ![2, 8192, 4, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S2x4x128x8192 : Shape := ⟨4, ![2, 4, 128, 8192]⟩
abbrev S2x8192x512 : Shape := ⟨3, ![2, 8192, 512]⟩

abbrev nBuf : Space → Nat
  | .hbm => 35
  | .vmem => 0
  | .smem => 0
  | _ => 0

abbrev bufTy : (tb : Table) → Fin (tcTables nBuf tb) → BufTy
  | .hbm, ⟨0, _⟩ => ⟨S16384x5248, .f32⟩
  | .hbm, ⟨1, _⟩ => ⟨S4x128x256, .f32⟩
  | .hbm, ⟨2, _⟩ => ⟨S16384x512, .f32⟩
  | .hbm, ⟨3, _⟩ => ⟨S2x8192x4x128, .f32⟩
  | .hbm, ⟨4, _⟩ => ⟨S4x256x2x8192, .f32⟩
  | .hbm, ⟨5, _⟩ => ⟨S2x8192x4x256, .f32⟩
  | .hbm, ⟨6, _⟩ => ⟨S8192, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S2x8192x4x128, .f32⟩
  | .hbm, ⟨27, _⟩ => ⟨S2x4x128x8192, .f32⟩
  | .hbm, ⟨28, _⟩ => ⟨S2x8192x4x128, .f32⟩
  | .hbm, ⟨29, _⟩ => ⟨S8192x8192, .f32⟩
  | .hbm, ⟨30, _⟩ => ⟨S2x8192x4x128, .f32⟩
  | .hbm, ⟨31, _⟩ => ⟨S2x4x128x8192, .f32⟩
  | .hbm, ⟨32, _⟩ => ⟨S2x8192x4x128, .f32⟩
  | .hbm, ⟨33, _⟩ => ⟨S2x8192x4x128, .f32⟩
  | .hbm, ⟨34, _⟩ => ⟨S2x8192x512, .f32⟩
  | _, _ => ⟨S16384x5248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Proof.Fnet.Trips.lean ====
/- The Fourier call's four loops, each by what its buffers hold before a trip, and the body's run. -/
module

public import proofs.«01_k».proof.Proof.Gen.Kernel5Ideal.Frame
public import proofs.«01_k».proof.Proof.Gen.Kernel5Ideal.Points
public import proofs.«01_k».proof.Proof.Gen.Kernel5Ideal.Skeleton
public import Idealize.ShloMosaic.Lib.Tactic
public import Idealize.ShloMosaic.Lib.Pointwise

@[expose] public section

set_option maxRecDepth 16384

noncomputable section

namespace Cert.Fnet

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The rectangles of the trips -/

/-- Rows of the input and of the result, rows and columns of a scratch buffer of padded rows, a slice of the second table. -/
abbrev rIn (j : Fin k0_t1_loop.trips) : Rect S1x8192x128 := Rect.unit (s := S1x8192x128) (k0_off1 j) S1x128x128.size (k0_off1_inb j)
abbrev rRow (j : Fin k0_t1_loop.trips) : Rect S8704x128 := Rect.unit (s := S8704x128) (k0_off2 j) S128x128.size (k0_off2_inb j)
abbrev rCol (j : Fin k0_t2_loop.trips) : Rect S8704x128 := ⟨(⟨k0_off3 j, S64x128.size, ![136, 1], k0_off3_inb j⟩ : LoadRect S8704x128), spos_136_1⟩
abbrev rRow' (j : Fin k0_t3_loop.trips) : Rect S8704x128 := Rect.unit (s := S8704x128) (k0_off4 j) S128x128.size (k0_off4_inb j)
abbrev rTab (j : Fin k0_t3_loop.trips) : Rect S64x128x256 := Rect.unit (s := S64x128x256) (k0_off5 j) S1x128x256.size (k0_off5_inb j)
abbrev rCol' (j : Fin k0_t4_loop.trips) : LoadRect S8704x128 := ⟨k0_off6 j, S64x128.size, ![136, 1], k0_off6_inb j⟩
abbrev rOut (j : Fin k0_t4_loop.trips) : Rect S1x8192x128 := Rect.unit (s := S1x8192x128) (k0_off7 j) S1x64x128.size (k0_off7_inb j)

theorem trips1 : k0_t1_loop.trips = 64 := by decide +kernel
theorem trips2 : k0_t2_loop.trips = 128 := by decide +kernel
theorem trips3 : k0_t3_loop.trips = 64 := by decide +kernel
theorem trips4 : k0_t4_loop.trips = 128 := by decide +kernel

theorem off1_eq : ∀ j, k0_off1 j = ![0, 128 * j.val, 0] := by decide +kernel
theorem off2_eq : ∀ j, k0_off2 j = ![136 * j.val, 0] := by decide +kernel
theorem off3_eq : ∀ j, k0_off3 j = ![j.val, 0] := by decide +kernel
theorem off4_eq : ∀ j, k0_off4 j = ![136 * j.val, 0] := by decide +kernel
theorem off5_eq : ∀ j, k0_off5 j = ![j.val, 0, 0] := by decide +kernel
theorem off6_eq : ∀ j, k0_off6 j = ![j.val, 0] := by decide +kernel
theorem off7_eq : ∀ j, k0_off7 j = ![0, 64 * j.val, 0] := by decide +kernel

theorem rRow_disj (i j : Fin k0_t1_loop.trips) (h : i ≠ j) : Disjoint (rRow i).set (rRow j).set := by
  have h : i.val ≠ j.val := fun e => h (Fin.ext e)
  refine Rect.disjoint_of_separated _ _ 0 ?_
  show (128 = 0 ∨ k0_off2 i 0 + 1 * (128 - 1) < k0_off2 j 0) ∨ (128 = 0 ∨ k0_off2 j 0 + 1 * (128 - 1) < k0_off2 i 0)
  rw [off2_eq, off2_eq]
  show (128 = 0 ∨ 136 * i.val + 1 * (128 - 1) < 136 * j.val) ∨ (128 = 0 ∨ 136 * j.val + 1 * (128 - 1) < 136 * i.val)
  omega

theorem rRow'_disj (i j : Fin k0_t3_loop.trips) (h : i ≠ j) : Disjoint (rRow' i).set (rRow' j).set := by
  have h : i.val ≠ j.val := fun e => h (Fin.ext e)
  refine Rect.disjoint_of_separated _ _ 0 ?_
  show (128 = 0 ∨ k0_off4 i 0 + 1 * (128 - 1) < k0_off4 j 0) ∨ (128 = 0 ∨ k0_off4 j 0 + 1 * (128 - 1) < k0_off4 i 0)
  rw [off4_eq, off4_eq]
  show (128 = 0 ∨ 136 * i.val + 1 * (128 - 1) < 136 * j.val) ∨ (128 = 0 ∨ 136 * j.val + 1 * (128 - 1) < 136 * i.val)
  omega

theorem rOut_disj (i j : Fin k0_t4_loop.trips) (h : i ≠ j) : Disjoint (rOut i).set (rOut j).set := by
  have h : i.val ≠ j.val := fun e => h (Fin.ext e)
  refine Rect.disjoint_of_separated _ _ 1 ?_
  show (64 = 0 ∨ k0_off7 i 1 + 1 * (64 - 1) < k0_off7 j 1) ∨ (64 = 0 ∨ k0_off7 j 1 + 1 * (64 - 1) < k0_off7 i 1)
  rw [off7_eq, off7_eq]
  show (64 = 0 ∨ 64 * i.val + 1 * (64 - 1) < 64 * j.val) ∨ (64 = 0 ∨ 64 * j.val + 1 * (64 - 1) < 64 * i.val)
  omega

theorem rCol_disj (i j : Fin k0_t2_loop.trips) (h : i ≠ j) : Disjoint (rCol i).set (rCol j).set := by
  have hn : i.val ≠ j.val := fun e => h (Fin.ext e)
  have hi : i.val < 128 := Nat.lt_of_lt_of_eq i.isLt trips2
  have hj : j.val < 128 := Nat.lt_of_lt_of_eq j.isLt trips2
  refine Rect.disjoint_of_residue _ _ 0 rfl ?_
  show k0_off3 i 0 % 136 ≠ k0_off3 j 0 % 136
  rw [off3_eq, off3_eq]
  show i.val % 136 ≠ j.val % 136
  omega

/-! ## A buffer filled rectangle by rectangle -/

section Filled
variable {s : Shape} {e : EltTy} {cs : CoreSpace} {n : Nat}

/-- The rectangles before `k` read the values `P`. -/
def Filled (A : Memref sig .tc cs s e) (R : Fin n → Rect s) (P : (j : Fin n) → (R j).shape.Idx → Elt F e) (k : Nat)
    (f : BufTy.Contents (Elt F) A.view.ty) : Prop :=
  ∀ j : Fin n, j.val < k → (A.view.slice (R j)).read (Elt F) f = P j

theorem Filled.zero (A : Memref sig .tc cs s e) (R : Fin n → Rect s) (P : (j : Fin n) → (R j).shape.Idx → Elt F e)
    (f : BufTy.Contents (Elt F) A.view.ty) : Filled A R P 0 f :=
  fun j h => absurd h (Nat.not_lt_zero _)

/-- A store through the next of disjoint rectangles keeps those before it. -/
theorem Filled.step {A : Memref sig .tc cs s e} {R : Fin n → Rect s} {P : (j : Fin n) → (R j).shape.Idx → Elt F e}
    (hd : ∀ i j, i ≠ j → Disjoint (R i).set (R j).set) {k : Fin n} {f : BufTy.Contents (Elt F) A.view.ty} (h : Filled A R P k.val f) :
    Filled A R P (k.val + 1) ((A.view.slice (R k)).write (Elt F) f (P k) Finset.univ) := by
  intro j hj
  by_cases hjk : j = k
  · subst hjk
    exact View.read_write_univ _ _
  · have hlt : j.val < k.val := by
      have : j.val ≠ k.val := fun e => hjk (Fin.ext e)
      omega
    refine (View.read_slice_write_slice_of_disjoint (R j) (R k) f (P k) Finset.univ ?_).trans (h j hlt)
    rw [View.setOn_univ, View.set_slice, View.set_slice]
    exact (Finset.disjoint_map _).mpr (hd j k hjk)

end Filled

/-! ## What the loops leave, as functions of the blocks -/

/-- The channels' products of row block `j`, their two halves. -/
def gRe (x0 : Vec F S1x8192x128 .f32) (x1 : Vec F S1x128x256 .f32) (j : Fin k0_t1_loop.trips) : Vec F S128x128 .f32 :=
  k0_pay2 x1 (fun y => x0 ((rIn j).idx y))
def gIm (x0 : Vec F S1x8192x128 .f32) (x1 : Vec F S1x128x256 .f32) (j : Fin k0_t1_loop.trips) : Vec F S128x128 .f32 :=
  k0_pay3 x1 (fun y => x0 ((rIn j).idx y))

/-- Row `j` of every block, one under another, and back. -/
def col {n : Nat} (hn : n = 64) (A : Fin n → Vec F S128x128 .f32) (j : Fin 128) : Vec F S64x128 .f32 :=
  fun i => A ((i 0).cast hn.symm) (ix2 j (i 1))
def row {n : Nat} (hn : n = 128) (B : Fin n → Vec F S64x128 .f32) (j : Fin 64) : Vec F S128x128 .f32 :=
  fun i => B ((i 0).cast hn.symm) (ix2 j (i 1))

/-- The transform over the blocks, its two parts. -/
def zRe (x0 : Vec F S1x8192x128 .f32) (x1 : Vec F S1x128x256 .f32) (x2 : Vec F S128x128 .f32) (j : Fin k0_t2_loop.trips) : Vec F S64x128 .f32 :=
  k0_pay5 x2 (col trips1 (gRe x0 x1) (j.cast trips2)) (col trips1 (gIm x0 x1) (j.cast trips2))
def zIm (x0 : Vec F S1x8192x128 .f32) (x1 : Vec F S1x128x256 .f32) (x2 : Vec F S128x128 .f32) (j : Fin k0_t2_loop.trips) : Vec F S64x128 .f32 :=
  k0_pay6 x2 (col trips1 (gRe x0 x1) (j.cast trips2)) (col trips1 (gIm x0 x1) (j.cast trips2))

/-- The transform within a block. -/
def hRe (x0 : Vec F S1x8192x128 .f32) (x1 : Vec F S1x128x256 .f32) (x2 : Vec F S128x128 .f32) (x3 : Vec F S64x128x256 .f32)
    (j : Fin k0_t3_loop.trips) : Vec F S128x128 .f32 :=
  k0_pay7 (row trips2 (zRe x0 x1 x2) (j.cast trips3)) (row trips2 (zIm x0 x1 x2) (j.cast trips3)) (fun y => x3 ((rTab j).idx y))

/-- The rows put in order. -/
def oRe (x0 : Vec F S1x8192x128 .f32) (x1 : Vec F S1x128x256 .f32) (x2 : Vec F S128x128 .f32) (x3 : Vec F S64x128x256 .f32)
    (j : Fin k0_t4_loop.trips) : Vec F S1x64x128 .f32 :=
  k0_pay8 (col trips3 (hRe x0 x1 x2 x3) (j.cast trips4))
def out (x0 : Vec F S1x8192x128 .f32) (x1 : Vec F S1x128x256 .f32) (x2 : Vec F S128x128 .f32) (x3 : Vec F S64x128x256 .f32) : Vec F S1x8192x128 .f32 :=
  fun i => oRe x0 x1 x2 x3 ⟨(i 1).val / 64, by have h : (i 1).val < 8192 := (i 1).isLt; rw [trips4]; omega⟩
    (ix3 0 ⟨(i 1).val % 64, by omega⟩ (i 2))

/-! ## The rectangles against one another -/

section Cross
variable {cs : CoreSpace} (A : Memref sig .tc cs S8704x128 .f32) (f : BufTy.Contents (Elt F) A.view.ty)

theorem read_col {P : Fin k0_t1_loop.trips → Vec F S128x128 .f32} (h : Filled A rRow P k0_t1_loop.trips f) (j : Fin k0_t2_loop.trips) :
    A.view.readAt (Elt F) (rCol j).toLoadRect f = col trips1 P (j.cast trips2) := by
  funext i
  refine Eq.trans ?_ (congrFun (h ((i 0).cast trips1.symm) (Fin.isLt _)) (ix2 (j.cast trips2) (i 1)))
  refine congrArg (A.view.read (Elt F) f) (funext fun a => Fin.ext ?_)
  fin_cases a
  · show k0_off3 j 0 + 136 * (i 0).val = k0_off2 ((i 0).cast trips1.symm) 0 + 1 * j.val
    rw [off3_eq, off2_eq]
    show j.val + 136 * (i 0).val = 136 * (i 0).val + 1 * j.val
    omega
  · show k0_off3 j 1 + 1 * (i 1).val = k0_off2 ((i 0).cast trips1.symm) 1 + 1 * (i 1).val
    rw [off3_eq, off2_eq]
    rfl

theorem read_row {P : Fin k0_t2_loop.trips → Vec F S64x128 .f32} (h : Filled A rCol P k0_t2_loop.trips f) (j : Fin k0_t3_loop.trips) :
    A.view.readAt (Elt F) (rRow' j).toLoadRect f = row trips2 P (j.cast trips3) := by
  funext i
  refine Eq.trans ?_ (congrFun (h ((i 0).cast trips2.symm) (Fin.isLt _)) (ix2 (j.cast trips3) (i 1)))
  refine congrArg (A.view.read (Elt F) f) (funext fun a => Fin.ext ?_)
  fin_cases a
  · show k0_off4 j 0 + 1 * (i 0).val = k0_off3 ((i 0).cast trips2.symm) 0 + 136 * j.val
    rw [off3_eq, off4_eq]
    show 136 * j.val + 1 * (i 0).val = (i 0).val + 136 * j.val
    omega
  · show k0_off4 j 1 + 1 * (i 1).val = k0_off3 ((i 0).cast trips2.symm) 1 + 1 * (i 1).val
    rw [off3_eq, off4_eq]
    rfl

theorem read_col' {P : Fin k0_t3_loop.trips → Vec F S128x128 .f32} (h : Filled A rRow' P k0_t3_loop.trips f) (j : Fin k0_t4_loop.trips) :
    A.view.readAt (Elt F) (rCol' j) f = col trips3 P (j.cast trips4) := by
  funext i
  refine Eq.trans ?_ (congrFun (h ((i 0).cast trips3.symm) (Fin.isLt _)) (ix2 (j.cast trips4) (i 1)))
  refine congrArg (A.view.read (Elt F) f) (funext fun a => Fin.ext ?_)
  fin_cases a
  · show k0_off6 j 0 + 136 * (i 0).val = k0_off4 ((i 0).cast trips3.symm) 0 + 1 * j.val
    rw [off6_eq, off4_eq]
    show j.val + 136 * (i 0).val = 136 * (i 0).val + 1 * j.val
    omega
  · show k0_off6 j 1 + 1 * (i 1).val = k0_off4 ((i 0).cast trips3.symm) 1 + 1 * (i 1).val
    rw [off6_eq, off4_eq]
    rfl

end Cross

theorem read_out {cs : CoreSpace} (A : Memref sig .tc cs S1x8192x128 .f32) (f : BufTy.Contents (Elt F) A.view.ty)
    {x0 : Vec F S1x8192x128 .f32} {x1 : Vec F S1x128x256 .f32} {x2 : Vec F S128x128 .f32} {x3 : Vec F S64x128x256 .f32}
    (h : Filled A rOut (oRe x0 x1 x2 x3) k0_t4_loop.trips f) : A.view.read (Elt F) f = out x0 x1 x2 x3 := by
  funext i
  have h0 : (i 0).val = 0 := by have := (i 0).isLt; change (i 0).val < 1 at this; omega
  have hj : (i 1).val / 64 < k0_t4_loop.trips := by have h : (i 1).val < 8192 := (i 1).isLt; rw [trips4]; omega
  refine Eq.trans ?_ (congrFun (h ⟨(i 1).val / 64, hj⟩ hj) (ix3 0 ⟨(i 1).val % 64, by omega⟩ (i 2)))
  refine congrArg (A.view.read (Elt F) f) (funext fun a => Fin.ext ?_)
  fin_cases a
  · show (i 0).val = k0_off7 ⟨(i 1).val / 64, hj⟩ 0 + 1 * 0
    rw [off7_eq, h0]
    rfl
  · show (i 1).val = k0_off7 ⟨(i 1).val / 64, hj⟩ 1 + 1 * ((i 1).val % 64)
    rw [off7_eq]
    show (i 1).val = 64 * ((i 1).val / 64) + 1 * ((i 1).val % 64)
    omega
  · show (i 2).val = k0_off7 ⟨(i 1).val / 64, hj⟩ 2 + 1 * (i 2).val
    rw [off7_eq]
    show (i 2).val = 0 + 1 * (i 2).val
    omega

/-! ## The trips -/

section Run
variable (c : Dev nD) (E : Set ℕ) (i : grid0.Coords)
  (arg2 : Memref sig .tc .vmem S1x8192x128 .f32) (harg2 : arg2.IsWhole) (arg3 : Memref sig .tc .vmem S1x128x256 .f32) (harg3 : arg3.IsWhole)
  (arg4 : Memref sig .tc .vmem S128x128 .f32) (harg4 : arg4.IsWhole) (arg5 : Memref sig .tc .vmem S64x128x256 .f32) (harg5 : arg5.IsWhole)
  (arg6 : Memref sig .tc .vmem S1x8192x128 .f32) (harg6 : arg6.IsWhole) (arg7 : Memref sig .tc .vmem S8704x128 .f32) (harg7 : arg7.IsWhole)
  (arg8 : Memref sig .tc .vmem S8704x128 .f32) (harg8 : arg8.IsWhole) (arg9 : Memref sig .tc .vmem S8704x128 .f32) (harg9 : arg9.IsWhole)
  (arg10 : Memref sig .tc .vmem S8704x128 .f32) (harg10 : arg10.IsWhole)

/-- A memref whole at contents `f`. -/
abbrev pts {s : Shape} {e : EltTy} (A : Memref sig .tc .vmem s e) (f : BufTy.Contents (Elt F) A.view.ty) : sProp (MT nD τ sig Unit (Elt F) ℕ (UR sig nD τ) ℕ) :=
  iprop(A.view.loc (c : Thread nD τ) ↦[A.view.set]{fullShare} f)

/-- A memref whose first rectangles are filled. -/
def part {s : Shape} {e : EltTy} {n : Nat} (A : Memref sig .tc .vmem s e) (R : Fin n → Rect s) (P : (j : Fin n) → (R j).shape.Idx → Elt F e) (k : Nat) :
    sProp (MT nD τ sig Unit (Elt F) ℕ (UR sig nD τ) ℕ) :=
  iprop(∃ f, pts c A f ∗ ⌜Filled A R P k f⌝)

variable (f2 : BufTy.Contents (Elt F) arg2.view.ty) (f5 : BufTy.Contents (Elt F) arg5.view.ty)
  (x0 : Vec F S1x8192x128 .f32) (x1 : Vec F S1x128x256 .f32) (x2 : Vec F S128x128 .f32) (x3 : Vec F S64x128x256 .f32)

/-- Before a trip of the first loop: the rows before it hold the channels' products. -/
def inv1 (k : Nat) (_ : Unit) : sProp (MT nD τ sig Unit (Elt F) ℕ (UR sig nD τ) ℕ) :=
  iprop(pts c arg2 f2 ∗ part c arg7 rRow (gRe (arg2.view.read (Elt F) f2) x1) k ∗ part c arg8 rRow (gIm (arg2.view.read (Elt F) f2) x1) k)

theorem trip1 (k : Fin k0_t1_loop.trips) (acc : Unit) :
    inv1 c arg2 arg7 arg8 f2 x1 k.val acc
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 x1 k acc)
          (inv1 c arg2 arg7 arg8 f2 x1 (k.val + 1)) := by
  unfold inv1 part k0_t1_body
  simp only [Prog.lift, Prog.bind_op, Prog.bind_ret, Prog.pure_eq_ret]
  iintro ⟨H2, ⟨%f7, H7, %h7⟩, ⟨%f8, H8, %h8⟩⟩
  iapply (wp_load Variants.none (c : Thread nD τ) none E (m := arg2) (View.setOn_subset_set _ _)) $$ H2; iintro H2
  iapply (wp_load Variants.none (c : Thread nD τ) none E (m := arg7) (View.setOn_subset_set _ _)) $$ H7; iintro H7
  iapply (wp_store Variants.none (c : Thread nD τ) none E (m := arg7) (r := rRow k) (Mk := Finset.univ) (View.set_slice_subset _ _)) $$ H7; iintro H7
  iapply (wp_load Variants.none (c : Thread nD τ) none E (m := arg8) (View.setOn_subset_set _ _)) $$ H8; iintro H8
  iapply (wp_store Variants.none (c : Thread nD τ) none E (m := arg8) (r := rRow k) (Mk := Finset.univ) (View.set_slice_subset _ _)) $$ H8; iintro H8
  rw [wp_ret]; imodintro
  isplitl [H2]; · iexact H2
  isplitl [H7]
  · iexists _; isplitl [H7]; · iexact H7
    ipureintro; exact Filled.step rRow_disj h7
  iexists _; isplitl [H8]; · iexact H8
  ipureintro; exact Filled.step rRow_disj h8

/-- Of the second: the strided rows before it hold the transform over the blocks. -/
def inv2 (k : Nat) (_ : Unit) : sProp (MT nD τ sig Unit (Elt F) ℕ (UR sig nD τ) ℕ) :=
  iprop(part c arg7 rRow (gRe x0 x1) k0_t1_loop.trips ∗ part c arg8 rRow (gIm x0 x1) k0_t1_loop.trips
    ∗ part c arg9 rCol (zRe x0 x1 x2) k ∗ part c arg10 rCol (zIm x0 x1 x2) k)

theorem trip2 (k : Fin k0_t2_loop.trips) (acc : Unit) :
    inv2 c arg7 arg8 arg9 arg10 x0 x1 x2 k.val acc
      ⊢ wp frame (wpE (defs₀ (F := F)) Variants.none (c : Thread nD τ) none) E
          (k0_t2_body (F := F) i arg2 harg2 arg3 harg3 arg4 harg4 arg5 harg5 arg6 harg6 arg7 harg7 arg8 harg8 arg9 harg9 arg10 harg10 x2 k acc)
          (inv2 c arg7 arg8 arg9 arg10 x0 x1 x2 (k.val + 1)) := by
  unfold inv2 part k0_t2_body
  simp only [Prog.lift, Prog.bind_op, Prog.bind_ret, Prog.pure_eq_ret]
  iintro ⟨⟨%f7, H7, %h7⟩, ⟨%f8, H8, %h8⟩, ⟨%f9, H9, %h9⟩, ⟨%f10, H10, %h10⟩⟩
  iapply (wp_load Variants.none (c : Thread nD τ) none E (m := arg7) (View.setOn_subset_set _ _)) $$ H7; iintro H7
  iapply (wp_load Variants.none (c : Thread nD τ) none E (m := arg8) (View.setOn_subset_set _ _)) $$ H8; iintro H8
  iapply (wp_load Variants.none (c : Thread nD τ) none E (m := arg9) (View.setOn_subset_set _ _)) $$ H9; iintro H9
  rw [read_col arg7 f7 h7 k, read_col arg8 f8 h8 k]
  iapply (wp_store Variants.none (c : Thread nD τ) none E (m := arg9) (r := rCol k) (Mk := Finset.univ) (View.set_slice_subset _ _)) $$ H9; iintro H9
  iapply (wp_load Variants.none (c : Thread nD τ) none E (m := arg10) (View.setOn_subset_set _ _)) $$ H10; iintro H10
  iapply (wp_store Variants.none (c : Thread nD τ) none E (m := arg10) (r := rCol k) (Mk := Finset.univ) (View.set_slice_subset _ _)) $$ H10; iintro H10
  rw [wp_ret]; imodintro
  isplitl [H7]
  · iexists _; isplitl [H7]; · iexact H7
    ipureintro; exact h7
  isplitl [H8]
  · iexists _; isplitl [H8]; · iexact H8
    ipureintro; exact h8
  isplitl [H9]
  · iexists _; isplitl [H9]; · iexact H9
    ipureintro; exact Filled.step rCol_disj h9
  iexists _; isplitl [H10]; · iexact H10
  ipureintro; exact Filled.step rCol_disj h10

/-- Of the third: the rows before it hold the transform within a block. -/
def inv3 (k : Nat) (_ : Unit) : sProp (MT nD τ sig Unit (Elt F) ℕ (UR sig nD τ) ℕ) :=
  iprop(pts c arg5 f5 ∗ part c arg9 rCol (zRe x0 x1 x2) k0_t2_loop.trips ∗ part c arg10 rCol (zIm x0 x1 x2) k0_t2_loop.trips
    ∗ part c arg7 rRow' (hRe x0 x1 x2 (arg5.view.read (Elt F) f5)) k)

theorem trip3 (k : Fin k0_t3_loop.trips) (acc : Unit) :
    inv3 c arg5 arg7 arg9 arg10 f5 x0 x1 x2 k.val acc
      ⊢ wp frame (wpE (defs₀ (F := F)) Variants.none (c : Thread nD τ) none) E
          (k0_t3_body (F := F) i arg2 harg2 arg3 harg3 arg4 harg4 arg5 harg5 arg6 harg6 arg7 harg7 arg8 harg8 arg9 harg9 arg10 harg10 k acc)
          (inv3 c arg5 arg7 arg9 arg10 f5 x0 x1 x2 (k.val + 1)) := by
  unfold inv3 part k0_t3_body
  simp only [Prog.lift, Prog.bind_op, Prog.bind_ret, Prog.pure_eq_ret]
  iintro ⟨H5, ⟨%f9, H9, %h9⟩, ⟨%f10, H10, %h10⟩, ⟨%f7, H7, %h7⟩⟩
  iapply (wp_load Variants.none (c : Thread nD τ) none E (m := arg9) (View.setOn_subset_set _ _)) $$ H9; iintro H9
  iapply (wp_load Variants.none (c : Thread nD τ) none E (m := arg10) (View.setOn_subset_set _ _)) $$ H10; iintro H10
  iapply (wp_load Variants.none (c : Thread nD τ) none E (m := arg5) (View.setOn_subset_set _ _)) $$ H5; iintro H5
  iapply (wp_load Variants.none (c : Thread nD τ) none E (m := arg7) (View.setOn_subset_set _ _)) $$ H7; iintro H7
  rw [read_row arg9 f9 h9 k, read_row arg10 f10 h10 k]
  iapply (wp_store Variants.none (c : Thread nD τ) none E (m := arg7) (r := rRow' k) (Mk := Finset.univ) (View.set_slice_subset _ _)) $$ H7; iintro H7
  rw [wp_ret]; imodintro
  isplitl [H5]; · iexact H5
  isplitl [H9]
  · iexists _; isplitl [H9]; · iexact H9
    ipureintro; exact h9
  isplitl [H10]
  · iexists _; isplitl [H10]; · iexact H10
    ipureintro; exact h10
  iexists _; isplitl [H7]; · iexact H7
  ipureintro; exact Filled.step rRow'_disj h7

/-- Of the last: the rows of the result before it are in order. -/
def inv4 (k : Nat) (_ : Unit) : sProp (MT nD τ sig Unit (Elt F) ℕ (UR sig nD τ) ℕ) :=
  iprop(part c arg7 rRow' (hRe x0 x1 x2 x3) k0_t3_loop.trips ∗ part c arg6 rOut (oRe x0 x1 x2 x3) k)

theorem trip4 (k : Fin k0_t4_loop.trips) (acc : Unit) :
    inv4 c arg6 arg7 x0 x1 x2 x3 k.val acc
      ⊢ wp frame (wpE (defs₀ (F := F)) Variants.none (c : Thread nD τ) none) E
          (k0_t4_body (F := F) i arg2 harg2 arg3 harg3 arg4 harg4 arg5 harg5 arg6 harg6 arg7 harg7 arg8 harg8 arg9 harg9 arg10 harg10 k acc)
          (inv4 c arg6 arg7 x0 x1 x2 x3 (k.val + 1)) := by
  unfold inv4 part k0_t4_body
  simp only [Prog.lift, Prog.bind_op, Prog.bind_ret, Prog.pure_eq_ret]
  iintro ⟨⟨%f7, H7, %h7⟩, ⟨%f6, H6, %h6⟩⟩
  iapply (wp_load Variants.none (c : Thread nD τ) none E (m := arg7) (View.setOn_subset_set _ _)) $$ H7; iintro H7
  iapply (wp_load Variants.none (c : Thread nD τ) none E (m := arg6) (View.setOn_subset_set _ _)) $$ H6; iintro H6
  rw [read_col' arg7 f7 h7 k]
  iapply (wp_store Variants.none (c : Thread nD τ) none E (m := arg6) (r := rOut k) (Mk := Finset.univ) (View.set_slice_subset _ _)) $$ H6; iintro H6
  rw [wp_ret]; imodintro
  isplitl [H7]
  · iexists _; isplitl [H7]; · iexact H7
    ipureintro; exact h7
  iexists _; isplitl [H6]; · iexact H6
  ipureintro; exact Filled.step rOut_disj h6

theorem z3 : (![0, 0, 0] : Fin 3 → Nat) = fun _ => 0 := by
  funext a
  fin_cases a <;> rfl
theorem z2 : (![0, 0] : Fin 2 → Nat) = fun _ => 0 := by
  funext a
  fin_cases a <;> rfl

/-- The body on whole memrefs: the inputs' as they were, the result's at `out` of them, the scratch at anything. -/
theorem sound_kernel (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (∃ f, pts c arg7 f) ∗ (∃ f, pts c arg8 f) ∗ (∃ f, pts c arg9 f) ∗ (∃ f, pts c arg10 f)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out x0 x1 x2 x3)
            ∗ (∃ f, pts c arg7 f) ∗ (∃ f, pts c arg8 f) ∗ (∃ f, pts c arg9 f) ∗ (∃ f, pts c arg10 f)) -∗ K ⟨⟩))
      ⊢ wp frame (wpE (defs₀ (F := F)) Variants.none (c : Thread nD τ) none) E (cc0_fnet i arg2 harg2 arg3 harg3 arg4 harg4 arg5 harg5 arg6 harg6 arg7 harg7 arg8 harg8 arg9 harg9 arg10 harg10) K := by
  simp only [cc0_fnet_eq_skeleton]; unfold cc0_fnet_skel
  simp only [Prog.lift, Prog.bind_op, Prog.bind_ret, Prog.pure_eq_ret]
  unfold owns
  iintro ⟨⟨%f2, %h2, H2⟩, ⟨%f3, %h3, H3⟩, ⟨%f4, %h4, H4⟩, ⟨%f5, %h5, H5⟩, ⟨%d6, %f6, -, H6⟩, ⟨%f7, H7⟩, ⟨%f8, H8⟩, ⟨%f9, H9⟩, ⟨%f10, H10⟩, Hk⟩
  subst h2 h3 h4 h5
  iapply (wp_load Variants.none (c : Thread nD τ) none E (m := arg3) (View.setOn_subset_set _ _)) $$ H3; iintro H3
  rw [View.readAt_eq_ld, View.ld_unit_zero z3]
  iapply (Scf.wp_for_bind frame (wpE (defs₀ (F := F)) Variants.none (c : Thread nD τ) none) E _ _ _ k0_t1_ok _ _
    (inv1 c arg2 arg7 arg8 f2 (arg3.view.read (Elt F) f3))
    (trip1 c E i arg2 harg2 arg3 harg3 arg4 harg4 arg5 harg5 arg6 harg6 arg7 harg7 arg8 harg8 arg9 harg9 arg10 harg10 f2 (arg3.view.read (Elt F) f3))) $$ [H2 H7 H8]
  · unfold inv1 part
    isplitl [H2]; · iexact H2
    isplitl [H7]
    · iexists _; isplitl [H7]; · iexact H7
      ipureintro; exact Filled.zero _ _ _ _
    iexists _; isplitl [H8]; · iexact H8
    ipureintro; exact Filled.zero _ _ _ _
  iintro %_ Hinv
  unfold inv1 part; icases Hinv with ⟨H2, H7, H8⟩
  iapply (wp_load Variants.none (c : Thread nD τ) none E (m := arg4) (View.setOn_subset_set _ _)) $$ H4; iintro H4
  rw [View.readAt_eq_ld, View.ld_unit_zero z2]
  iapply (Scf.wp_for_bind frame (wpE (defs₀ (F := F)) Variants.none (c : Thread nD τ) none) E _ _ _ k0_t2_ok _ _
    (inv2 c arg7 arg8 arg9 arg10 (arg2.view.read (Elt F) f2) (arg3.view.read (Elt F) f3) (arg4.view.read (Elt F) f4))
    (trip2 c E i arg2 harg2 arg3 harg3 arg4 harg4 arg5 harg5 arg6 harg6 arg7 harg7 arg8 harg8 arg9 harg9 arg10 harg10 (arg2.view.read (Elt F) f2) (arg3.view.read (Elt F) f3) (arg4.view.read (Elt F) f4))) $$ [H7 H8 H9 H10]
  · unfold inv2 part
    isplitl [H7]; · iexact H7
    isplitl [H8]; · iexact H8
    isplitl [H9]
    · iexists _; isplitl [H9]; · iexact H9
      ipureintro; exact Filled.zero _ _ _ _
    iexists _; isplitl [H10]; · iexact H10
    ipureintro; exact Filled.zero _ _ _ _
  iintro %_ Hinv
  unfold inv2 part; icases Hinv with ⟨⟨%g7, H7, -⟩, ⟨%g8, H8, -⟩, H9, H10⟩
  iapply (Scf.wp_for_bind frame (wpE (defs₀ (F := F)) Variants.none (c : Thread nD τ) none) E _ _ _ k0_t3_ok _ _
    (inv3 c arg5 arg7 arg9 arg10 f5 (arg2.view.read (Elt F) f2) (arg3.view.read (Elt F) f3) (arg4.view.read (Elt F) f4))
    (trip3 c E i arg2 harg2 arg3 harg3 arg4 harg4 arg5 harg5 arg6 harg6 arg7 harg7 arg8 harg8 arg9 harg9 arg10 harg10 f5 (arg2.view.read (Elt F) f2) (arg3.view.read (Elt F) f3) (arg4.view.read (Elt F) f4))) $$ [H5 H7 H9 H10]
  · unfold inv3 part
    isplitl [H5]; · iexact H5
    isplitl [H9]; · iexact H9
    isplitl [H10]; · iexact H10
    iexists _; isplitl [H7]; · iexact H7
    ipureintro; exact Filled.zero _ _ _ _
  iintro %_ Hinv
  unfold inv3 part; icases Hinv with ⟨H5, ⟨%g9, H9, -⟩, ⟨%g10, H10, -⟩, H7⟩
  iapply (Scf.wp_for_bind frame (wpE (defs₀ (F := F)) Variants.none (c : Thread nD τ) none) E _ _ _ k0_t4_ok _ _
    (inv4 c arg6 arg7 (arg2.view.read (Elt F) f2) (arg3.view.read (Elt F) f3) (arg4.view.read (Elt F) f4) (arg5.view.read (Elt F) f5))
    (trip4 c E i arg2 harg2 arg3 harg3 arg4 harg4 arg5 harg5 arg6 harg6 arg7 harg7 arg8 harg8 arg9 harg9 arg10 harg10 (arg2.view.read (Elt F) f2) (arg3.view.read (Elt F) f3) (arg4.view.read (Elt F) f4) (arg5.view.read (Elt F) f5))) $$ [H6 H7]
  · unfold inv4 part
    isplitl [H7]; · iexact H7
    iexists _; isplitl [H6]; · iexact H6
    ipureintro; exact Filled.zero _ _ _ _
  iintro %_ Hinv
  unfold inv4 part; icases Hinv with ⟨⟨%e7, H7, -⟩, ⟨%g6, H6, %h6⟩⟩
  rw [wp_ret]; imodintro
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists g6; isplitr; · ipureintro; exact read_out arg6 g6 h6
    iexact H6
  isplitl [H7]; · iexists _; iexact H7
  isplitl [H8]; · iexists _; iexact H8
  isplitl [H9]; · iexists _; iexact H9
  iexists _; iexact H10

end Run

end Cert.Fnet

end
-- ==== Proof.Fnet.Run.lean ====
/- The Fourier call's run over its points, and what it leaves unchanged. -/
module

public import proofs.«01_k».proof.Proof.Fnet.Trips
public import proofs.«01_k».proof.Proof.Gen.Kernel5
public import Idealize.ShloMosaic.Lib.Pipeline.FrameBody
public import Idealize.ShloMosaic.Lib.Claim

@[expose] public section

set_option maxRecDepth 16384

noncomputable section

namespace Cert.Fnet

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The run's data: each input's buffer at its block, the result's at `out` of them, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (iblk m c 0 t) (iblk m c 1 t) (iblk m c 2 t) (iblk m c 3 t)
  Φ _ := Pipeline.ΦA spec0 c
  q _ := fullShare
  owed _ := 0

theorem arr_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out (iblk m c 0 t) (iblk m c 1 t) (iblk m c 2 t) (iblk m c 3 t) := by dsimp only [dats]

theorem before0 (c : Dev nD) (t : Fin cfg0.N) (d) : (dats m 0 c).before 0 t d = iblk m c 0 t :=
  before0_0_of m (dats m 0 c) (arr_eq m c 0) (after0 m c) t d
theorem before1 (c : Dev nD) (t : Fin cfg0.N) (d) : (dats m 0 c).before 1 t d = iblk m c 1 t :=
  before0_1_of m (dats m 0 c) (arr_eq m c 1) (after1 m c) t d
theorem before2 (c : Dev nD) (t : Fin cfg0.N) (d) : (dats m 0 c).before 2 t d = iblk m c 2 t :=
  before0_2_of m (dats m 0 c) (arr_eq m c 2) (after2 m c) t d
theorem before3 (c : Dev nD) (t : Fin cfg0.N) (d) : (dats m 0 c).before 3 t d = iblk m c 3 t :=
  before0_3_of m (dats m 0 c) (arr_eq m c 3) (after3 m c) t d

/-- What a point starts from, and what it ends with. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem phi_eq (c : Dev nD) (t : Fin (cfg0.N + 1)) : (dats m 0 c).Φ t
    = iprop(((∃ f, pts (F := F) c (Memref.whole cc0_scratch0) f) ∗ (∃ f, pts c (Memref.whole cc0_scratch1) f) ∗ (∃ f, pts c (Memref.whole cc0_scratch2) f)
        ∗ (∃ f, pts c (Memref.whole cc0_scratch3) f)) ∗ ∃ r, prngReg c r) := by
  show Pipeline.ΦA spec0 c = _
  unfold Pipeline.ΦA pts
  rw [scopedRest0_eq]
  simp only [Memref.view_whole, View.set_whole]

theorem sound_point (c : Dev nD) (t : Fin cfg0.N) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl,
    after0, after1, after2, after3, after4, phi_eq, phi_eq]
  iintro ⟨⟨⟨S0, S1, S2, S3⟩, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [S3]; · iexact S3
  iintro ⟨H0, H1, H2, H3, H4, S0, S1, S2, S3⟩
  isplitl [S0 S1 S2 S3 Hr]
  · isplitl [S0 S1 S2 S3]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  iexact H4

theorem row_body (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_body]
  exact triple_restated (sound_point m c t) rfl .rfl fun _ => .rfl

set_option backward.isDefEq.respectTransparency.types false in
set_option maxHeartbeats 800000 in
/-- Every run ends, the arrays at what the points leave, every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_eq m) (hΦ := fun _ _ => rfl)

theorem post_run : θ_run defs (onTc (τ := τ) (main (F := F))) (s₀ m ρ) (Pipeline.FramePost cfgs (dats m) 0 (V m)) :=
  (θ_run defs _ _).mono (fun _ h => h.1) (run m ρ)

/-- The arguments end as they were, every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (arr_eq m) (post_run m ρ)) ((θ_run defs _ _).mono (fun _ h => h.2) (run m ρ))

end Cert.Fnet

end
-- ==== Proof.Fnet.Bits.lean ====
/- The Fourier call as printed: its text is the idealized one's, so its frame is that run's. -/
module

public import proofs.«01_k».proof.Proof.Fnet.Run

@[expose] public section

set_option maxRecDepth 65536
set_option maxHeartbeats 4000000

noncomputable section

namespace Cert.Fnet

open Idealize.ShloMosaic Idealize.ShloMosaic.TcCoe Idealize.SL.Sem

set_option backward.isDefEq.respectTransparency.types false in
theorem body_eq (i a ha b hb c hc d hd e he f hf g hg h hh j hj) :
    Cert.Kernel5.cc0_fnet (F := Bits) i a ha b hb c hc d hd e he f hf g hg h hh j hj
      = Cert.Kernel5Ideal.cc0_fnet (F := Bits) i a ha b hb c hc d hd e he f hf g hg h hh j hj := by
  unfold Cert.Kernel5.cc0_fnet Cert.Kernel5Ideal.cc0_fnet
  rfl

set_option backward.isDefEq.respectTransparency.types false in
theorem bodies_eq : Cert.Kernel5.defs₀ (F := Bits) = Cert.Kernel5Ideal.defs₀ (F := Bits) := by
  unfold Cert.Kernel5.defs₀ Cert.Kernel5Ideal.defs₀
  refine congrArg Defs.onTc ?_
  funext l x
  match l, x with
  | 0, (t, s) => exact body_eq _ _ _ _ _ _ _ _ _ _ _ _ _ _ _ _ _ _ _

set_option backward.isDefEq.respectTransparency.types false in
theorem defs_eq : Cert.Kernel5.defs (F := Bits) = Cert.Kernel5Ideal.defs (F := Bits) := by
  unfold Cert.Kernel5.defs Cert.Kernel5Ideal.defs
  rw [bodies_eq]
  rfl

set_option backward.isDefEq.respectTransparency.types false in
theorem main_eq : Cert.Kernel5.main (F := Bits) = Cert.Kernel5Ideal.main (F := Bits) := by
  unfold Cert.Kernel5.main Cert.Kernel5Ideal.main
  rfl

set_option backward.isDefEq.respectTransparency.types false in
/-- The printed kernel has the idealized one's text, so its frame is the same run's. -/
theorem frame_bits (m : (ℓ : Loc Cert.Kernel5.nD Cert.Kernel5.τ Cert.Kernel5.sig) → Buf (Elt Bits) ℓ) (ρ : Dev Cert.Kernel5.nD → PrngReg) :
    θ_run (Cert.Kernel5.defs (F := Bits)) (onTc (τ := Cert.Kernel5.τ) (Cert.Kernel5.main (F := Bits))) ⟨m, fun _ => 0, ρ⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0) := by
  rw [defs_eq, main_eq]
  exact frame_ideal (F := Bits) m ρ

end Cert.Fnet

end
-- ==== Proof.Fnet.Trig.lean ====
/- A transform of 8192 positions in two steps, over the reals: 64 blocks, then the 128 positions within one. -/
module

public import Idealize.ShloMosaic.PureOps.Ideal
public import Mathlib.Analysis.SpecialFunctions.Trigonometric.Arctan
public import Mathlib.Analysis.SpecialFunctions.Trigonometric.Basic

@[expose] public section

noncomputable section

namespace Cert.Fnet

open Real (cos sin pi)

/-- The part of a full turn `n` is of `N`, whole turns left out. -/
def turn (n N : ℕ) : ℝ := 2 * pi * ((n % N : ℕ) : ℝ) / (N : ℝ)

theorem turn_eq (n N : ℕ) (hN : 0 < N) : turn n N = 2 * pi * n / N - (n / N : ℕ) * (2 * pi) := by
  have h : ((N * (n / N) + n % N : ℕ) : ℝ) = n := by rw [Nat.div_add_mod]
  have hN' : (N : ℝ) ≠ 0 := by positivity
  push_cast at h
  unfold turn
  field_simp
  rw [← h]
  push_cast
  ring

theorem cos_turn (n N : ℕ) (hN : 0 < N) : cos (turn n N) = cos (2 * pi * n / N) := by
  rw [turn_eq n N hN, Real.cos_sub_nat_mul_two_pi]

theorem sin_turn (n N : ℕ) (hN : 0 < N) : sin (turn n N) = sin (2 * pi * n / N) := by
  rw [turn_eq n N hN, Real.sin_sub_nat_mul_two_pi]

/-- Frequency `a + 64 b` at position `128 s + t`: its turn at `t`, and that of `a` at `s` of 64, whole turns apart. -/
theorem angle (a b s t : ℕ) : 2 * pi * (((a + 64 * b) * (128 * s + t) : ℕ) : ℝ) / (8192 : ℕ)
    = 2 * pi * ((t * (a + 64 * b) : ℕ) : ℝ) / (8192 : ℕ) + 2 * pi * ((a * s : ℕ) : ℝ) / (64 : ℕ) + (b * s : ℕ) * (2 * pi) := by
  push_cast
  ring

theorem cos_split (a b s t : ℕ) : cos (turn ((a + 64 * b) * (128 * s + t)) 8192)
    = cos (turn (t * (a + 64 * b)) 8192) * cos (turn (a * s) 64) - sin (turn (t * (a + 64 * b)) 8192) * sin (turn (a * s) 64) := by
  rw [cos_turn _ _ (by norm_num), cos_turn _ _ (by norm_num), cos_turn _ _ (by norm_num), sin_turn _ _ (by norm_num), sin_turn _ _ (by norm_num),
    angle, Real.cos_add_nat_mul_two_pi, Real.cos_add]

theorem sin_split (a b s t : ℕ) : sin (turn ((a + 64 * b) * (128 * s + t)) 8192)
    = sin (turn (t * (a + 64 * b)) 8192) * cos (turn (a * s) 64) + cos (turn (t * (a + 64 * b)) 8192) * sin (turn (a * s) 64) := by
  rw [sin_turn _ _ (by norm_num), cos_turn _ _ (by norm_num), cos_turn _ _ (by norm_num), sin_turn _ _ (by norm_num), sin_turn _ _ (by norm_num),
    angle, Real.sin_add_nat_mul_two_pi, Real.sin_add]

/-- Position `128 s + t`. -/
def pos (s : Fin 64) (t : Fin 128) : Fin 8192 := ⟨128 * s.val + t.val, by omega⟩

theorem sum_pos (f : Fin 8192 → ℝ) : ∑ x, f x = ∑ t : Fin 128, ∑ s : Fin 64, f (pos s t) := by
  rw [Finset.sum_comm, ← Finset.sum_product', ← Equiv.sum_comp (finProdFinEquiv (m := 64) (n := 128)) f]
  refine Finset.sum_congr rfl fun x _ => congrArg f (Fin.ext ?_)
  show x.2.val + 128 * x.1.val = 128 * x.1.val + x.2.val
  omega

/-- One frequency of the transform's real part, of values of real part `u` and imaginary part `v`. -/
def freq (u v : Fin 8192 → ℝ) (p : ℕ) : ℝ := ∑ x, u x * cos (turn (p * x.val) 8192) + ∑ x, v x * sin (turn (p * x.val) 8192)

/-- The two steps are the transform. -/
theorem two_steps (u v : Fin 8192 → ℝ) (a b : ℕ) :
    ∑ t : Fin 128, cos (turn (t.val * (a + 64 * b)) 8192)
        * (∑ s : Fin 64, cos (turn (a * s.val) 64) * u (pos s t) + ∑ s : Fin 64, sin (turn (a * s.val) 64) * v (pos s t))
      + ∑ t : Fin 128, sin (turn (t.val * (a + 64 * b)) 8192)
        * (∑ s : Fin 64, -sin (turn (a * s.val) 64) * u (pos s t) + ∑ s : Fin 64, cos (turn (a * s.val) 64) * v (pos s t))
      = freq u v (a + 64 * b) := by
  unfold freq
  rw [sum_pos, sum_pos, ← Finset.sum_add_distrib, ← Finset.sum_add_distrib]
  refine Finset.sum_congr rfl fun t _ => ?_
  rw [← Finset.sum_add_distrib, ← Finset.sum_add_distrib, ← Finset.sum_add_distrib, Finset.mul_sum, Finset.mul_sum, ← Finset.sum_add_distrib]
  refine Finset.sum_congr rfl fun s _ => ?_
  rw [show (pos s t).val = 128 * s.val + t.val from rfl, cos_split, sin_split]
  ring

/-! ## Sums of reals among the extended -/

theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

theorem dot_coe {n : ℕ} {a b : Fin n → EReal} {f g : Fin n → ℝ} (ha : ∀ i, a i = ((f i : ℝ) : EReal)) (hb : ∀ i, b i = ((g i : ℝ) : EReal)) :
    ∑ i, a i * b i = ((∑ i, f i * g i : ℝ) : EReal) := by
  rw [← coe_sum]
  exact Finset.sum_congr rfl fun i _ => by rw [ha, hb, EReal.coe_mul]

end Cert.Fnet

end
-- ==== Proof.Fnet.Pay.lean ====
/- The Fourier call's block at the ideal instance: of real entries, it is the transform's real part. -/
module

public import proofs.«01_k».proof.Proof.Fnet.Trips
public import proofs.«01_k».proof.Proof.Fnet.Trig
public import Idealize.ShloMosaic.Lib.Pipeline.ValueKit.Geometry
public import Idealize.ShloMosaic.Lib.Pipeline.ValueKit.Tiles
public import Idealize.ShloMosaic.Lib.Pointwise
public import Idealize.ShloMosaic.PureOps.Ideal

@[expose] public section

set_option maxRecDepth 16384

noncomputable section

namespace Cert.Fnet

open Cert.Kernel5Ideal Cert.Kernel5Ideal.Gen Idealize.ShloMosaic Idealize.SL.Sem Idealize.ShloMosaic.Pointwise
open Real (cos sin)

/-- Indices in the second half of an axis, and in the first. -/
abbrev fst64 (k : Fin 64) : Fin 128 := ⟨k.val, by omega⟩
abbrev snd64 (k : Fin 64) : Fin 128 := ⟨64 + k.val, by omega⟩
abbrev fst128 (k : Fin 128) : Fin 256 := ⟨k.val, by omega⟩
abbrev snd128 (k : Fin 128) : Fin 256 := ⟨128 + k.val, by omega⟩

section
variable (x1 : Vec Ideal S1x128x256 .f32) (v : Vec Ideal S1x128x128 .f32) (x2 : Vec Ideal S128x128 .f32) (a b : Vec Ideal S64x128 .f32)
  (x3 : Vec Ideal S1x128x256 .f32) (y z : Vec Ideal S128x128 .f32) (r e : Fin 128) (k : Fin 64)

theorem pay2_at : k0_pay2 x1 v (ix2 r e) = ∑ c : Fin 128, v (ix3 0 r c) * x1 (ix3 0 c (fst128 e)) := by
  pointwise [k0_pay2, k0_pay1]

theorem pay3_at : k0_pay3 x1 v (ix2 r e) = ∑ c : Fin 128, v (ix3 0 r c) * x1 (ix3 0 c (snd128 e)) := by
  pointwise [k0_pay3, k0_pay1]

theorem pay5_at : k0_pay5 x2 a b (ix2 k e) = ∑ s : Fin 64, x2 (ix2 (fst64 k) (fst64 s)) * a (ix2 s e) + ∑ s : Fin 64, x2 (ix2 (fst64 k) (snd64 s)) * b (ix2 s e) := by
  pointwise [k0_pay5, k0_pay4]

theorem pay6_at : k0_pay6 x2 a b (ix2 k e) = ∑ s : Fin 64, x2 (ix2 (snd64 k) (fst64 s)) * a (ix2 s e) + ∑ s : Fin 64, x2 (ix2 (snd64 k) (snd64 s)) * b (ix2 s e) := by
  pointwise [k0_pay6, k0_pay4]

theorem pay7_at : k0_pay7 y z x3 (ix2 r e) = ∑ t : Fin 128, x3 (ix3 0 r (fst128 t)) * y (ix2 t e) + ∑ t : Fin 128, x3 (ix3 0 r (snd128 t)) * z (ix2 t e) := by
  pointwise [k0_pay7]

theorem pay8_at : k0_pay8 a (ix3 0 k e) = a (ix2 k e) := by
  pointwise [k0_pay8]

end

/-- Where a trip reads the input, and the second table. -/
theorem in_at (j : Fin k0_t1_loop.trips) (s : Fin 64) (h : j.val = s.val) (r c : Fin 128) : (rIn j).idx (ix3 0 r c) = ix3 (n0 := 1) (n1 := 8192) (n2 := 128) 0 (pos s r) c :=
  funext fun i => Fin.ext (((Rect.idx_unit_val _ _ _ _ i).trans (congrArg (· + _) (congrFun (off1_eq j) i))).trans (by
    fin_cases i
    · rfl
    · show 128 * j.val + r.val = 128 * s.val + r.val
      omega
    · exact Nat.zero_add _))

theorem tab_at (j : Fin k0_t3_loop.trips) (k : Fin 64) (h : j.val = k.val) (r : Fin 128) (c : Fin 256) : (rTab j).idx (ix3 0 r c) = ix3 (n0 := 64) (n1 := 128) (n2 := 256) k r c :=
  funext fun i => Fin.ext (((Rect.idx_unit_val _ _ _ _ i).trans (congrArg (· + _) (congrFun (off5_eq j) i))).trans (by
    fin_cases i
    · show j.val + 0 = k.val
      omega
    · exact Nat.zero_add _
    · exact Nat.zero_add _))

section
variable {x0 : Vec Ideal S1x8192x128 .f32} {x1 : Vec Ideal S1x128x256 .f32} {x2 : Vec Ideal S128x128 .f32} {x3 : Vec Ideal S64x128x256 .f32}
  {X : Fin 8192 → Fin 128 → ℝ} {W : Fin 128 → Fin 256 → ℝ}

/-- A group's channels mixed, the real part and the imaginary. -/
def mixRe (X : Fin 8192 → Fin 128 → ℝ) (W : Fin 128 → Fin 256 → ℝ) (e : Fin 128) (s : Fin 8192) : ℝ := ∑ c, X s c * W c (fst128 e)
def mixIm (X : Fin 8192 → Fin 128 → ℝ) (W : Fin 128 → Fin 256 → ℝ) (e : Fin 128) (s : Fin 8192) : ℝ := ∑ c, X s c * W c (snd128 e)

theorem gRe_at (h0 : ∀ s c, x0 (ix3 0 s c) = ((X s c : ℝ) : EReal)) (h1 : ∀ c d, x1 (ix3 0 c d) = ((W c d : ℝ) : EReal))
    (j : Fin k0_t1_loop.trips) (s : Fin 64) (h : j.val = s.val) (r e : Fin 128) : gRe x0 x1 j (ix2 r e) = ((mixRe X W e (pos s r) : ℝ) : EReal) := by
  unfold gRe
  rw [pay2_at]
  exact dot_coe (fun c => by rw [in_at j s h]; exact h0 _ _) (fun c => h1 _ _)

theorem gIm_at (h0 : ∀ s c, x0 (ix3 0 s c) = ((X s c : ℝ) : EReal)) (h1 : ∀ c d, x1 (ix3 0 c d) = ((W c d : ℝ) : EReal))
    (j : Fin k0_t1_loop.trips) (s : Fin 64) (h : j.val = s.val) (r e : Fin 128) : gIm x0 x1 j (ix2 r e) = ((mixIm X W e (pos s r) : ℝ) : EReal) := by
  unfold gIm
  rw [pay3_at]
  exact dot_coe (fun c => by rw [in_at j s h]; exact h0 _ _) (fun c => h1 _ _)

/-- The first table: the turns of 64, and those a quarter on. -/
def Tab1 (x2 : Vec Ideal S128x128 .f32) : Prop := ∀ k s : Fin 64,
  x2 (ix2 (fst64 k) (fst64 s)) = ((cos (turn (k.val * s.val) 64) : ℝ) : EReal) ∧ x2 (ix2 (fst64 k) (snd64 s)) = ((sin (turn (k.val * s.val) 64) : ℝ) : EReal)
  ∧ x2 (ix2 (snd64 k) (fst64 s)) = ((-sin (turn (k.val * s.val) 64) : ℝ) : EReal) ∧ x2 (ix2 (snd64 k) (snd64 s)) = ((cos (turn (k.val * s.val) 64) : ℝ) : EReal)

/-- The second: the turns of 8192. -/
def Tab2 (x3 : Vec Ideal S64x128x256 .f32) : Prop := ∀ (k : Fin 64) (r t : Fin 128),
  x3 (ix3 k r (fst128 t)) = ((cos (turn (t.val * (k.val + 64 * r.val)) 8192) : ℝ) : EReal)
  ∧ x3 (ix3 k r (snd128 t)) = ((sin (turn (t.val * (k.val + 64 * r.val)) 8192) : ℝ) : EReal)

theorem zRe_at (h0 : ∀ s c, x0 (ix3 0 s c) = ((X s c : ℝ) : EReal)) (h1 : ∀ c d, x1 (ix3 0 c d) = ((W c d : ℝ) : EReal)) (h2 : Tab1 x2)
    (j : Fin k0_t2_loop.trips) (t : Fin 128) (h : j.val = t.val) (k : Fin 64) (e : Fin 128) : zRe x0 x1 x2 j (ix2 k e)
      = ((∑ s : Fin 64, cos (turn (k.val * s.val) 64) * mixRe X W e (pos s t) + ∑ s : Fin 64, sin (turn (k.val * s.val) 64) * mixIm X W e (pos s t) : ℝ) : EReal) := by
  unfold zRe
  rw [pay5_at, EReal.coe_add]
  obtain rfl : j.cast trips2 = t := Fin.ext h
  exact congrArg₂ (· + ·) (dot_coe (fun s => (h2 k s).1) (fun s => gRe_at h0 h1 _ s rfl _ _)) (dot_coe (fun s => (h2 k s).2.1) (fun s => gIm_at h0 h1 _ s rfl _ _))

theorem zIm_at (h0 : ∀ s c, x0 (ix3 0 s c) = ((X s c : ℝ) : EReal)) (h1 : ∀ c d, x1 (ix3 0 c d) = ((W c d : ℝ) : EReal)) (h2 : Tab1 x2)
    (j : Fin k0_t2_loop.trips) (t : Fin 128) (h : j.val = t.val) (k : Fin 64) (e : Fin 128) : zIm x0 x1 x2 j (ix2 k e)
      = ((∑ s : Fin 64, -sin (turn (k.val * s.val) 64) * mixRe X W e (pos s t) + ∑ s : Fin 64, cos (turn (k.val * s.val) 64) * mixIm X W e (pos s t) : ℝ) : EReal) := by
  unfold zIm
  rw [pay6_at, EReal.coe_add]
  obtain rfl : j.cast trips2 = t := Fin.ext h
  exact congrArg₂ (· + ·) (dot_coe (fun s => (h2 k s).2.2.1) (fun s => gRe_at h0 h1 _ s rfl _ _)) (dot_coe (fun s => (h2 k s).2.2.2) (fun s => gIm_at h0 h1 _ s rfl _ _))

theorem hRe_at (h0 : ∀ s c, x0 (ix3 0 s c) = ((X s c : ℝ) : EReal)) (h1 : ∀ c d, x1 (ix3 0 c d) = ((W c d : ℝ) : EReal)) (h2 : Tab1 x2) (h3 : Tab2 x3)
    (j : Fin k0_t3_loop.trips) (k : Fin 64) (h : j.val = k.val) (r e : Fin 128) : hRe x0 x1 x2 x3 j (ix2 r e)
      = ((freq (mixRe X W e) (mixIm X W e) (k.val + 64 * r.val) : ℝ) : EReal) := by
  unfold hRe
  rw [pay7_at, ← two_steps, EReal.coe_add]
  obtain rfl : j.cast trips3 = k := Fin.ext h
  exact congrArg₂ (· + ·)
    (dot_coe (fun t => by rw [tab_at j (j.cast trips3) rfl]; exact (h3 _ r t).1) (fun t => zRe_at h0 h1 h2 _ t rfl _ _))
    (dot_coe (fun t => by rw [tab_at j (j.cast trips3) rfl]; exact (h3 _ r t).2) (fun t => zIm_at h0 h1 h2 _ t rfl _ _))

/-- A block's entry: its channel's frequency of the transform. -/
theorem out_at (h0 : ∀ s c, x0 (ix3 0 s c) = ((X s c : ℝ) : EReal)) (h1 : ∀ c d, x1 (ix3 0 c d) = ((W c d : ℝ) : EReal)) (h2 : Tab1 x2) (h3 : Tab2 x3)
    (p : Fin 8192) (e : Fin 128) : out x0 x1 x2 x3 (ix3 0 p e) = ((freq (mixRe X W e) (mixIm X W e) p.val : ℝ) : EReal) := by
  have hd : p.val / 64 < 128 := by omega
  have hm : p.val % 64 < 64 := by omega
  have hp : p.val % 64 + 64 * (p.val / 64) = p.val := by omega
  have hj : p.val / 64 < k0_t4_loop.trips := by rw [trips4]; exact hd
  show oRe x0 x1 x2 x3 ⟨p.val / 64, hj⟩ (ix3 0 ⟨p.val % 64, hm⟩ e) = _
  unfold oRe
  rw [pay8_at]
  refine (hRe_at h0 h1 h2 h3 _ ⟨p.val % 64, hm⟩ rfl ⟨p.val / 64, hd⟩ e).trans ?_
  show ((freq (mixRe X W e) (mixIm X W e) (p.val % 64 + 64 * (p.val / 64)) : ℝ) : EReal) = _
  rw [hp]

end

end Cert.Fnet

end
-- ==== Proof.Wts.Arr.lean ====
/- The mixing weights' kernel run: the tables its windows read, and the array it leaves. -/
module

public import proofs.«01_k».proof.Proof.Gen.Kernel4Ideal.Value
public import Idealize.ShloMosaic.Lib.Pipeline.ValueKit.Geometry
public import Idealize.ShloMosaic.Lib.Pipeline.ValueKit.Tiles
public import Idealize.ShloMosaic.Lib.Pointwise
public import Idealize.ShloMosaic.PureOps.Ideal

@[expose] public section

set_option maxRecDepth 16384

noncomputable section

namespace Cert.Wts

open Cert.Kernel4Ideal Cert.Kernel4Ideal.Gen Idealize.ShloMosaic Idealize.ShloMosaic.TcCoe Idealize.SL.Sem Idealize.ShloMosaic.Pointwise
open Idealize.ShloMosaic.Pipeline (Dat)

/-- Neither infinity. -/
def IsReal (x : EReal) : Prop := ∃ r : ℝ, x = r

theorem sub_self_of {x : EReal} (h : IsReal x) : x - x = 0 := by
  obtain ⟨r, rfl⟩ := h
  exact EReal.sub_self (EReal.coe_ne_top r) (EReal.coe_ne_bot r)

/-- The angles `2 π (c d mod 128) / 128`, the full turn eight times the arctangent of one. -/
def ang : FVec Ideal S128x128 .f32 :=
  Host.divf (mulf (broadcastInDim S128x128 ![] bcast_S_S128x128 (mulf (constant S_ .f32 0x41000000#32) (Host.atan (constant (F := Ideal) S_ .f32 0x3F800000#32))))
    (sitofp .f32 (Host.remsi (muli
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
      (broadcastInDim S128x128 ![] bcast_S_S128x128 (constantI S_ 32 128#32)))))
    (broadcastInDim S128x128 ![] bcast_S_S128x128 (constant S_ .f32 0x43000000#32))

theorem ang_real (i : S128x128.Idx) : IsReal (ang i) := by
  have h0 : Ideal.ofBits .f32 0x41000000#32 = ((8 : ℝ) : EReal) := by
    simp [Ideal.ofBits, Ideal.ieee, -EReal.coe_mul]; norm_num
  have h1 : Ideal.ofBits .f32 0x43000000#32 = ((128 : ℝ) : EReal) := by
    simp [Ideal.ofBits, Ideal.ieee, -EReal.coe_mul]; norm_num
  unfold ang
  generalize (Host.remsi (muli
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
      (broadcastInDim S128x128 ![] bcast_S_S128x128 (constantI S_ 32 128#32)) : IVec S128x128 32) = q
  rw [eq_ix2 (n0 := 128) (n1 := 128) i]
  pointwise
  rw [h0, h1, show (FloatOps.sitofp (F := Ideal) .f32 (q i)) = (((q i).toInt : ℝ) : EReal) from rfl, ← EReal.coe_one, Ideal.atan_coe, ← EReal.coe_mul, ← EReal.coe_mul, Ideal.div_coe (by norm_num), ← EReal.coe_mul]
  exact ⟨_, rfl⟩

def ct : FVec Ideal S128x128 .f32 := Host.cos ang
def st : FVec Ideal S128x128 .f32 := Host.sin ang

theorem ct_real (i : S128x128.Idx) : IsReal (ct i) := by
  obtain ⟨r, h⟩ := ang_real i
  exact ⟨Real.cos r, (congrArg Ideal.cos h).trans (Ideal.cos_coe r)⟩

theorem st_real (i : S128x128.Idx) : IsReal (st i) := by
  obtain ⟨r, h⟩ := ang_real i
  exact ⟨Real.sin r, (congrArg Ideal.sin h).trans (Ideal.sin_coe r)⟩

/-- The length the transform is scaled by: the square root of `8192 * 128`. -/
abbrev len : EReal := Ideal.ofBits .f32 0x44800000#32

/-- The dot product of row `c` of a table with column `e` of a matrix, over the length. -/
def dot (t : Vec Ideal S128x128 .f32) (w : Fin 128 → Fin 128 → EReal) (c e : Fin 128) : EReal :=
  Ideal.div (∑ k : Fin 128, t (ix2 c k) * w k e) len

/-- A row of the mixing weights: the first table's half, then the second's, negated. -/
def half (t u : Vec Ideal S128x128 .f32) (w : Fin 128 → Fin 128 → EReal) (c : Fin 128) (e : Fin 256) : EReal :=
  if h : e.val < 128 then dot t w c ⟨e.val, h⟩ else - dot u w c ⟨e.val - 128, by omega⟩

/-- The mixing weights. -/
def res (w : Vec Ideal S1x4x128x128 .f32) : FVec Ideal S4x128x256 .f32 := fun i =>
  half ct st (fun k e => w (ix4 0 (i 0) k e)) (i 1) (i 2)

theorem scale (x : EReal) : x * Ideal.ofBits .f32 0x3A800000#32 = Ideal.div x len := by
  have h0 : Ideal.ofBits .f32 0x3A800000#32 = ((1 / 1024 : ℝ) : EReal) := by
    simp [Ideal.ofBits, Ideal.ieee, -EReal.coe_mul]; norm_num
  have h1 : len = ((1024 : ℝ) : EReal) := by
    simp [len, Ideal.ofBits, Ideal.ieee, -EReal.coe_mul]; norm_num
  rw [h0, h1, Ideal.div_coe (by norm_num)]

/-- The two remainder sums vanish. -/
theorem parts {t : Vec Ideal S128x128 .f32} {w : Fin 128 → Fin 128 → EReal} (ht : ∀ i, IsReal (t i)) (hw : ∀ k e, IsReal (w k e))
    (c e : Fin 128) :
    ∑ k, t (ix2 c k) * w k e + (∑ k, t (ix2 c k) * (w k e - w k e) + ∑ k, (t (ix2 c k) - t (ix2 c k)) * w k e)
      = ∑ k, t (ix2 c k) * w k e := by
  simp only [sub_self_of (ht _), sub_self_of (hw _ _), mul_zero, zero_mul, Finset.sum_const_zero, add_zero]

theorem row_eq {t u : Vec Ideal S128x128 .f32} {w : Fin 128 → Fin 128 → EReal} (ht : ∀ i, IsReal (t i)) (hu : ∀ i, IsReal (u i))
    (hw : ∀ k e, IsReal (w k e)) (c : Fin 128) (e : Fin 256) :
    (if h : e.val < 128 then
        ∑ k, t (ix2 c k) * w k ⟨e.val, h⟩ + (∑ k, t (ix2 c k) * (w k ⟨e.val, h⟩ - w k ⟨e.val, h⟩) + ∑ k, (t (ix2 c k) - t (ix2 c k)) * w k ⟨e.val, h⟩)
      else
        0 - (∑ k, u (ix2 c k) * w k ⟨e.val - 128, by omega⟩ + (∑ k, u (ix2 c k) * (w k ⟨e.val - 128, by omega⟩ - w k ⟨e.val - 128, by omega⟩)
          + ∑ k, (u (ix2 c k) - u (ix2 c k)) * w k ⟨e.val - 128, by omega⟩))) * Ideal.ofBits .f32 0x3A800000#32
      = half t u w c e := by
  simp only [parts ht hw, parts hu hw]
  unfold half dot
  by_cases h : e.val < 128
  · rw [dif_pos h, dif_pos h, scale]
  · rw [dif_neg h, dif_neg h, ← scale, zero_sub, neg_mul]

theorem pay0 {x y : Vec Ideal S128x128 .f32} {w : Vec Ideal S1x128x128 .f32} (hx : ∀ i, IsReal (x i)) (hy : ∀ i, IsReal (y i))
    (hw : ∀ i, IsReal (w i)) (c : Fin 128) (e : Fin 256) :
    k0_pay3 (F := Ideal) (k0_pay2 x w y w) (ix3 0 c e) = half x y (fun k e => w (ix3 0 k e)) c e := by
  pointwise [k0_pay3, k0_pay2]
  exact row_eq (w := fun k e => w (ix3 0 k e)) hx hy (fun _ _ => hw _) c e

theorem pay1 {x y : Vec Ideal S128x128 .f32} {w : Vec Ideal S1x128x128 .f32} (hx : ∀ i, IsReal (x i)) (hy : ∀ i, IsReal (y i))
    (hw : ∀ i, IsReal (w i)) (c : Fin 128) (e : Fin 256) :
    k0_pay6 (F := Ideal) (k0_pay4 x w y w) k0_pay5 (ix3 0 c e) = half x y (fun k e => w (ix3 0 k e)) c e := by
  pointwise [k0_pay6, k0_pay4, k0_pay5]
  exact row_eq (w := fun k e => w (ix3 0 k e)) hx hy (fun _ _ => hw _) c e

theorem pay2 {x y : Vec Ideal S128x128 .f32} {w : Vec Ideal S1x128x128 .f32} (hx : ∀ i, IsReal (x i)) (hy : ∀ i, IsReal (y i))
    (hw : ∀ i, IsReal (w i)) (c : Fin 128) (e : Fin 256) :
    k0_pay10 (F := Ideal) (k0_pay7 x w) (k0_pay8 y w) k0_pay9 (ix3 0 c e) = half x y (fun k e => w (ix3 0 k e)) c e := by
  pointwise [k0_pay10, k0_pay7, k0_pay8, k0_pay9]
  exact row_eq (w := fun k e => w (ix3 0 k e)) hx hy (fun _ _ => hw _) c e

theorem pay3 {x y : Vec Ideal S128x128 .f32} {w : Vec Ideal S1x128x128 .f32} (hx : ∀ i, IsReal (x i)) (hy : ∀ i, IsReal (y i))
    (hw : ∀ i, IsReal (w i)) (c : Fin 128) (e : Fin 256) :
    k0_pay1 (F := Ideal) (k0_pay11 x w) (k0_pay16 y w) (k0_pay17 y w) (k0_pay18 y w) (ix3 0 c e) = half x y (fun k e => w (ix3 0 k e)) c e := by
  pointwise [k0_pay1, k0_pay11, k0_pay16, k0_pay17, k0_pay18, k0_pay12, k0_pay13, k0_pay14, k0_pay15]
  exact row_eq (w := fun k e => w (ix3 0 k e)) hx hy (fun _ _ => hw _) c e

theorem ld_t (x : Vec Ideal S128x128 .f32) : View.ld x r0_0 = x := View.ld_unit_zero (by funext a; fin_cases a <;> rfl) _ x

theorem at_w (g : Fin 4) (inb) (w : Vec Ideal S4x128x128 .f32) (k e : Fin 128) :
    View.ld w (Rect.unit (s := S4x128x128) ![g.val, 0, 0] S1x128x128.size inb) (ix3 0 k e) = w (ix3 g k e) :=
  View.ld_unit_apply_of w _ _ inb (ix3 0 k e) (ix3 g k e) fun a => by
    fin_cases a
    · exact (Nat.add_zero _).symm
    · exact (Nat.zero_add _).symm
    · exact (Nat.zero_add _).symm

theorem at_out (g : Fin 4) (inb) (z : S1x128x256.Idx) :
    (Rect.unit (s := S4x128x256) ![g.val, 0, 0] S1x128x256.size inb).emb z = ix3 (n0 := 4) (n1 := 128) (n2 := 256) g (z 1) (z 2) :=
  funext fun a => Fin.ext ((Rect.idx_unit_val _ _ inb z a).trans (by
    have h0 : (z 0).val = 0 := by have := (z 0).isLt; change (z 0).val < 1 at this; omega
    fin_cases a
    · show g.val + (z 0).val = g.val
      omega
    · exact Nat.zero_add _
    · exact Nat.zero_add _))

theorem half_congr {t u : Vec Ideal S128x128 .f32} {w w' : Fin 128 → Fin 128 → EReal} (h : ∀ k e, w k e = w' k e) (c : Fin 128) (e : Fin 256) :
    half t u w c e = half t u w' c e := by
  rw [funext fun k => funext (h k)]

/-- The body's result, a block per head. -/
def outv (x y : Vec Ideal S128x128 .f32) (w : Vec Ideal S4x128x128 .f32) : Vec Ideal S4x128x256 .f32 :=
  fun i => half x y (fun k e => w (ix3 (i 0) k e)) (i 1) (i 2)

theorem out_at (x y : Vec Ideal S128x128 .f32) (w : Vec Ideal S4x128x128 .f32) (g : Fin 4) (inb) (inb') (z : S1x128x256.Idx) :
    half x y (fun k e => View.ld w (Rect.unit (s := S4x128x128) ![g.val, 0, 0] S1x128x128.size inb) (ix3 0 k e)) (z 1) (z 2)
      = outv x y w ((Rect.unit (s := S4x128x256) ![g.val, 0, 0] S1x128x256.size inb').emb z) := by
  rw [at_out g inb' z]
  exact half_congr (fun k e => at_w g inb w k e) _ _

theorem eq_z (z : S1x128x256.Idx) : z = ix3 (n0 := 1) (n1 := 128) (n2 := 256) 0 (z 1) (z 2) := by
  have h0 : z 0 = (0 : Fin 1) := Subsingleton.elim (α := Fin 1) _ _
  exact (eq_ix3 (n0 := 1) (n1 := 128) (n2 := 256) z).trans (by rw [h0])

theorem piece0 {x y : Vec Ideal S128x128 .f32} {w : Vec Ideal S4x128x128 .f32} (hx : ∀ i, IsReal (x i)) (hy : ∀ i, IsReal (y i))
    (hw : ∀ i, IsReal (w i)) (z : S1x128x256.Idx) :
    k0_pay3 (F := Ideal) (k0_pay2 x (View.ld w r0_1) y (View.ld w r0_1)) z = outv x y w (r0_2.emb z) :=
  ((congrArg _ (eq_z z)).trans (pay0 hx hy (fun _ => hw _) (z 1) (z 2))).trans (out_at x y w 0 _ _ z)

theorem piece1 {x y : Vec Ideal S128x128 .f32} {w : Vec Ideal S4x128x128 .f32} (hx : ∀ i, IsReal (x i)) (hy : ∀ i, IsReal (y i))
    (hw : ∀ i, IsReal (w i)) (z : S1x128x256.Idx) :
    k0_pay6 (F := Ideal) (k0_pay4 x (View.ld w r0_3) y (View.ld w r0_3)) k0_pay5 z = outv x y w (r0_4.emb z) :=
  ((congrArg _ (eq_z z)).trans (pay1 hx hy (fun _ => hw _) (z 1) (z 2))).trans (out_at x y w 1 _ _ z)

theorem piece2 {x y : Vec Ideal S128x128 .f32} {w : Vec Ideal S4x128x128 .f32} (hx : ∀ i, IsReal (x i)) (hy : ∀ i, IsReal (y i))
    (hw : ∀ i, IsReal (w i)) (z : S1x128x256.Idx) :
    k0_pay10 (F := Ideal) (k0_pay7 x (View.ld w r0_5)) (k0_pay8 y (View.ld w r0_5)) k0_pay9 z = outv x y w (r0_6.emb z) :=
  ((congrArg _ (eq_z z)).trans (pay2 hx hy (fun _ => hw _) (z 1) (z 2))).trans (out_at x y w 2 _ _ z)

theorem piece3 {x y : Vec Ideal S128x128 .f32} {w : Vec Ideal S4x128x128 .f32} (hx : ∀ i, IsReal (x i)) (hy : ∀ i, IsReal (y i))
    (hw : ∀ i, IsReal (w i)) (z : S1x128x256.Idx) :
    k0_pay1 (F := Ideal) (k0_pay11 x (View.ld w r0_7)) (k0_pay16 y (View.ld w r0_7)) (k0_pay17 y (View.ld w r0_7)) (k0_pay18 y (View.ld w r0_7)) z = outv x y w (r0_8.emb z) :=
  ((congrArg _ (eq_z z)).trans (pay3 hx hy (fun _ => hw _) (z 1) (z 2))).trans (out_at x y w 3 _ _ z)

theorem out_eq {x y : Vec Ideal S128x128 .f32} {w : Vec Ideal S4x128x128 .f32} (hx : ∀ i, IsReal (x i)) (hy : ∀ i, IsReal (y i))
    (hw : ∀ i, IsReal (w i)) : out0_3 (F := Ideal) x y w = outv x y w := by
  funext i
  unfold out0_3
  simp only [ld_t]
  refine View.canon_apply_of_pieces (outv x y w) _ (fun p hp z => ?_) i (cover0_3 _ _ _ _ i)
  fin_cases hp
  · exact piece3 hx hy hw z
  · exact piece2 hx hy hw z
  · exact piece1 hx hy hw z
  · exact piece0 hx hy hw z

variable (m : (ℓ : Loc nD τ sig) → Buf (Elt Ideal) ℓ) (c : Dev nD)

theorem V_ct : V m c main_v17 = ct := by
  dsimp only [V]
  after_results
  rfl

theorem V_st : V m c main_v18 = st := by
  dsimp only [V]
  after_results
  rfl

theorem V_w : V m c main_v0 = (shapeCast S4x128x128 (m ((c : Thread nD τ).loc main_arg0)) shapeCasts_S1x4x128x128_S4x128x128 : Vec Ideal S4x128x128 .f32) := by
  dsimp only [V]
  after_results
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)

theorem blk_c (t : Fin cfg0.N) : (iblk m c 0 t : Vec Ideal S128x128 .f32) = ct := by
  funext i
  rw [eq_ix2 (n0 := 128) (n1 := 128) i]
  blk_simp [iblk]
  rw [show (win0_0.blk t).view.emb (ix2 (i 0) (i 1)) = ix2 (i 0) (i 1) by blk_ext [idx0]]
  exact congrFun (V_ct m c) _

theorem blk_s (t : Fin cfg0.N) : (iblk m c 1 t : Vec Ideal S128x128 .f32) = st := by
  funext i
  rw [eq_ix2 (n0 := 128) (n1 := 128) i]
  blk_simp [iblk]
  rw [show (win0_1.blk t).view.emb (ix2 (i 0) (i 1)) = ix2 (i 0) (i 1) by blk_ext [idx1]]
  exact congrFun (V_st m c) _

theorem blk_w (t : Fin cfg0.N) (g : Fin 4) (k e : Fin 128) : (iblk m c 2 t : Vec Ideal S4x128x128 .f32) (ix3 g k e)
    = (m ((c : Thread nD τ).loc main_arg0) : Vec Ideal S1x4x128x128 .f32) (ix4 0 g k e) := by
  have h (a : Vec Ideal S1x4x128x128 .f32) : shapeCast S4x128x128 a shapeCasts_S1x4x128x128_S4x128x128 (ix3 g k e) = a (ix4 0 g k e) := by
    pointwise
  blk_simp [iblk]
  rw [show (win0_2.blk t).view.emb (ix3 g k e) = ix3 g k e by blk_ext [idx2]]
  exact (congrFun (V_w m c) _).trans (h _)

theorem blk_w_real (hw : ∀ i, IsReal ((m ((c : Thread nD τ).loc main_arg0) : Vec Ideal S1x4x128x128 .f32) i)) (t : Fin cfg0.N) (i : S4x128x128.Idx) :
    IsReal ((iblk m c 2 t : Vec Ideal S4x128x128 .f32) i) := by
  have h := blk_w m c t (i 0) (i 1) (i 2)
  have e : i = ix3 (i 0) (i 1) (i 2) := eq_ix3 (n0 := 4) (n1 := 128) (n2 := 128) i
  exact (congrArg (fun j => IsReal ((iblk m c 2 t : Vec Ideal S4x128x128 .f32) j)) e).mpr ((congrArg IsReal h).mpr (hw _))

/-- THE KERNEL'S RESULT ARRAY is the mixing weights, of finite entries. -/
theorem final (hw : ∀ i, IsReal ((m ((c : Thread nD τ).loc main_arg0) : Vec Ideal S1x4x128x128 .f32) i)) :
    (dats m 0 c).arrAt 3 cfg0.N = res (m ((c : Thread nD τ).loc main_arg0)) := by
  refine (dats m 0 c).arrAt_eq_of_covers 3 _ (by decide +kernel) fun t hf y => ?_
  have e0 := blk_c m c t
  have e1 := blk_s m c t
  have e2 := blk_w m c t
  blk_simp
  rw [after0_3, eq_ix3 (n0 := 4) (n1 := 128) (n2 := 256) y]
  rw [show (win0_3.blk t).view.emb (ix3 (y 0) (y 1) (y 2)) = ix3 (y 0) (y 1) (y 2) by blk_ext [idx3]]
  refine (congrFun (out_eq (fun i => e0 ▸ ct_real i) (fun i => e1 ▸ st_real i) (blk_w_real m c hw t)) _).trans ?_
  rw [e0, e1]
  exact half_congr (fun k e => e2 (y 0) k e) _ _

end Cert.Wts

end
-- ==== Proof.Fnet.Arr.lean ====
/- The Fourier call's run: the tables its windows read, and the array it leaves, of finite arguments. -/
module

public import proofs.«01_k».proof.Proof.Fnet.Pay
public import proofs.«01_k».proof.Proof.Fnet.Run
public import proofs.«01_k».proof.Proof.Wts.Arr
public import Idealize.ShloMosaic.Lib.Routing.Words
public import Idealize.ShloMosaic.Lib.Pipeline.Value

@[expose] public section

set_option maxRecDepth 16384

noncomputable section

namespace Cert.Fnet

open Cert.Kernel5Ideal Cert.Kernel5Ideal.Gen Idealize.ShloMosaic Idealize.ShloMosaic.TcCoe Idealize.SL.Sem Idealize.ShloMosaic.Pointwise
open Idealize.ShloMosaic.Pipeline (Dat)
open Cert.Wts (IsReal)
open Real (cos sin)

/-! ## The tables -/

/-- An angle as both programs write it: the full turn eight times the arctangent of one, the remainder of a product of words over the length. -/
def angle_of (u : ArithUnit) (n w l : BitVec 32) : EReal :=
  Ideal.div (Ideal.ofBits .f32 0x41000000#32 * Ideal.atan 1 * FloatOps.sitofp (F := Ideal) .f32 (IntOp.remsi u n w)) (Ideal.ofBits .f32 l)

theorem angle_eq (u : ArithUnit) (a N : ℕ) (l : BitVec 32) (ha : a < 2 ^ 31) (h0 : 0 < N) (hN : N < 2 ^ 31) (hl : Ideal.ofBits .f32 l = (((N : ℝ) : ℝ) : EReal)) :
    angle_of u (BitVec.ofNat 32 a) (BitVec.ofNat 32 N) l = ((turn a N : ℝ) : EReal) := by
  have h8 : Ideal.ofBits .f32 0x41000000#32 = ((8 : ℝ) : EReal) := by
    simp [Ideal.ofBits, Ideal.ieee, -EReal.coe_mul]; norm_num
  have hr : a % N < N := Nat.mod_lt _ h0
  have hi : (BitVec.ofNat 32 (a % N)).toInt = ((a % N : ℕ) : ℤ) := by
    rw [BitVec.toInt_eq_toNat_of_lt] <;> rw [BitVec.toNat_ofNat] <;> omega
  have hN' : (N : ℝ) ≠ 0 := by positivity
  unfold angle_of
  rw [Routing.remsi_word u ha h0 hN, h8, hl, show FloatOps.sitofp (F := Ideal) .f32 (BitVec.ofNat 32 (a % N)) = ((((BitVec.ofNat 32 (a % N)).toInt : ℝ) : ℝ) : EReal) from rfl, hi,
    ← EReal.coe_one, Ideal.atan_coe, ← EReal.coe_mul, ← EReal.coe_mul, Ideal.div_coe hN', ← EReal.coe_mul, Real.arctan_one]
  congr 1
  unfold turn
  rw [Int.cast_natCast]
  field_simp
  ring

/-- The angles of 64, and of 8192. -/
def ang1 : FVec Ideal S64x64 .f32 :=
  Host.divf (mulf (broadcastInDim S64x64 ![] bcast_S_S64x64 (mulf (constant S_ .f32 0x41000000#32) (Host.atan (constant (F := Ideal) S_ .f32 0x3F800000#32))))
    (sitofp .f32 (Host.remsi (muli
      (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0))))
      (broadcastInDim S64x64 ![] bcast_S_S64x64 (constantI S_ 32 64#32)))))
    (broadcastInDim S64x64 ![] bcast_S_S64x64 (constant S_ .f32 0x42800000#32))
def ang2 : FVec Ideal S64x128x128 .f32 :=
  Host.divf (mulf (broadcastInDim S64x128x128 ![] bcast_S_S64x128x128 (mulf (constant S_ .f32 0x41000000#32) (Host.atan (constant (F := Ideal) S_ .f32 0x3F800000#32))))
    (sitofp .f32 (Host.remsi (muli
      (broadcastInDim S64x128x128 ![0, 1, 2] bcast_S1x1x128_S64x128x128_0_1_2 (broadcastInDim S1x1x128 ![2] bcast_S128_S1x1x128_2 (iotaInDim S128 32 0)))
      (broadcastInDim S64x128x128 ![0, 1, 2] bcast_S64x128x1_S64x128x128_0_1_2 (addi
        (broadcastInDim S64x128x1 ![0, 1, 2] bcast_S64x1x1_S64x128x1_0_1_2 (broadcastInDim S64x1x1 ![0] bcast_S64_S64x1x1_0 (iotaInDim S64 32 0)))
        (broadcastInDim S64x128x1 ![0, 1, 2] bcast_S1x128x1_S64x128x1_0_1_2 (muli (broadcastInDim S1x128x1 ![] bcast_S_S1x128x1 (constantI S_ 32 64#32))
          (broadcastInDim S1x128x1 ![1] bcast_S128_S1x128x1_1 (iotaInDim S128 32 0)))))))
      (broadcastInDim S64x128x128 ![] bcast_S_S64x128x128 (constantI S_ 32 8192#32)))))
    (broadcastInDim S64x128x128 ![] bcast_S_S64x128x128 (constant S_ .f32 0x46000000#32))

theorem len64 : Ideal.ofBits .f32 0x42800000#32 = (((64 : ℕ) : ℝ) : EReal) := by
  simp [Ideal.ofBits, Ideal.ieee, -EReal.coe_mul]; norm_num
theorem len8192 : Ideal.ofBits .f32 0x46000000#32 = (((8192 : ℕ) : ℝ) : EReal) := by
  simp [Ideal.ofBits, Ideal.ieee, -EReal.coe_mul]; norm_num

theorem ang1_at (k s : Fin 64) : ang1 (ix2 k s) = ((turn (k.val * s.val) 64 : ℝ) : EReal) := by
  have hb : k.val * s.val < 64 * 64 := Nat.mul_lt_mul'' k.isLt s.isLt
  refine Eq.trans ?_ (angle_eq .host (k.val * s.val) 64 0x42800000#32 (by omega) (by norm_num) (by norm_num) len64)
  unfold ang1 angle_of
  pointwise
  rw [BitVec.ofNat_mul]
  rfl

theorem ang2_at (k : Fin 64) (r t : Fin 128) : ang2 (ix3 k r t) = ((turn (t.val * (k.val + 64 * r.val)) 8192 : ℝ) : EReal) := by
  have hb : t.val * (k.val + 64 * r.val) < 128 * 8192 := Nat.mul_lt_mul'' t.isLt (by omega)
  refine Eq.trans ?_ (angle_eq .host (t.val * (k.val + 64 * r.val)) 8192 0x46000000#32 (by omega) (by norm_num) (by norm_num) len8192)
  unfold ang2 angle_of
  pointwise
  rw [BitVec.ofNat_mul, BitVec.ofNat_add, BitVec.ofNat_mul]
  rfl

def tab1 : FVec Ideal S128x128 .f32 :=
  concatenate S128x128 0 [⟨S64x128, concatenate S64x128 1 [⟨S64x64, Host.cos ang1⟩, ⟨S64x64, Host.sin ang1⟩] concatenates_S64x64_S64x64_S64x128_d1⟩,
   ⟨S64x128, concatenate S64x128 1 [⟨S64x64, Host.negf (Host.sin ang1)⟩, ⟨S64x64, Host.cos ang1⟩] concatenates_S64x64_S64x64_S64x128_d1⟩] concatenates_S64x128_S64x128_S128x128_d0
def tab2 : FVec Ideal S64x128x256 .f32 :=
  concatenate S64x128x256 2 [⟨S64x128x128, Host.cos ang2⟩, ⟨S64x128x128, Host.sin ang2⟩] concatenates_S64x128x128_S64x128x128_S64x128x256_d2

theorem tab1_ok : Tab1 tab1 := by
  intro k s
  have h := ang1_at k s
  have hc : Ideal.cos (ang1 (ix2 k s)) = ((cos (turn (k.val * s.val) 64) : ℝ) : EReal) := by rw [h, Ideal.cos_coe]
  have hs : Ideal.sin (ang1 (ix2 k s)) = ((sin (turn (k.val * s.val) 64) : ℝ) : EReal) := by rw [h, Ideal.sin_coe]
  unfold tab1
  generalize ang1 = a at hc hs ⊢
  refine ⟨?_, ?_, ?_, ?_⟩
  · pointwise
    exact hc
  · pointwise
    exact hs
  · pointwise
    rw [EReal.coe_neg]
    exact congrArg _ hs
  · pointwise
    exact hc

theorem tab2_ok : Tab2 tab2 := by
  intro k r t
  have h := ang2_at k r t
  have hc : Ideal.cos (ang2 (ix3 k r t)) = ((cos (turn (t.val * (k.val + 64 * r.val)) 8192) : ℝ) : EReal) := by rw [h, Ideal.cos_coe]
  have hs : Ideal.sin (ang2 (ix3 k r t)) = ((sin (turn (t.val * (k.val + 64 * r.val)) 8192) : ℝ) : EReal) := by rw [h, Ideal.sin_coe]
  unfold tab2
  generalize ang2 = a at hc hs ⊢
  refine ⟨?_, ?_⟩
  · pointwise
    exact hc
  · pointwise
    exact hs

/-! ## The result -/

/-- A sequence's entries in a group's columns, and the group's weights, as reals. -/
def colsOf (x : Vec Ideal S16384x5248 .f32) (b : Fin 2) (g : Fin 4) (s : Fin 8192) (c : Fin 128) : ℝ :=
  (x (ix2 ⟨b.val * 8192 + s.val, by omega⟩ ⟨4096 + g.val * 128 + c.val, by omega⟩)).toReal
def wtsOf (w : Vec Ideal S4x128x256 .f32) (g : Fin 4) (c : Fin 128) (d : Fin 256) : ℝ := (w (ix3 g c d)).toReal

/-- An entry: the real part of the transform over the positions, of the group's mixed channels. -/
def resAt (x : Vec Ideal S16384x5248 .f32) (w : Vec Ideal S4x128x256 .f32) (b : Fin 2) (p : Fin 8192) (g : Fin 4) (e : Fin 128) : EReal :=
  ((freq (mixRe (colsOf x b g) (wtsOf w g) e) (mixIm (colsOf x b g) (wtsOf w g) e) p.val : ℝ) : EReal)

/-- The result. -/
def res (x : Vec Ideal S16384x5248 .f32) (w : Vec Ideal S4x128x256 .f32) : FVec Ideal S2x8192x512 .f32 := fun i =>
  resAt x w (i 0) (i 1) ⟨(i 2).val / 128, by have h : (i 2).val < 512 := (i 2).isLt; omega⟩ ⟨(i 2).val % 128, by omega⟩

/-- What the arguments hold: no infinity where the call reads. -/
def Real5 (x : Vec Ideal S16384x5248 .f32) (w : Vec Ideal S4x128x256 .f32) : Prop :=
  (∀ (r : Fin 16384) (e : Fin 512), IsReal (x (ix2 r ⟨4096 + e.val, by omega⟩))) ∧ ∀ i, IsReal (w i)

theorem coe_of {x : EReal} (h : IsReal x) : x = ((x.toReal : ℝ) : EReal) := by
  obtain ⟨r, rfl⟩ := h
  rw [EReal.toReal_coe]

theorem colsOf_eq {x : Vec Ideal S16384x5248 .f32} {w : Vec Ideal S4x128x256 .f32} (h : Real5 x w) (b : Fin 2) (g : Fin 4) (s : Fin 8192) (c : Fin 128) :
    x (ix2 ⟨b.val * 8192 + s.val, by omega⟩ ⟨4096 + g.val * 128 + c.val, by omega⟩) = ((colsOf x b g s c : ℝ) : EReal) := by
  have h1 := h.1 ⟨b.val * 8192 + s.val, by omega⟩ ⟨g.val * 128 + c.val, by omega⟩
  have e : (⟨4096 + g.val * 128 + c.val, by omega⟩ : Fin 5248) = ⟨4096 + (g.val * 128 + c.val), by omega⟩ := Fin.ext (Nat.add_assoc _ _ _)
  unfold colsOf
  rw [e]
  exact coe_of h1

theorem wtsOf_eq {x : Vec Ideal S16384x5248 .f32} {w : Vec Ideal S4x128x256 .f32} (h : Real5 x w) (g : Fin 4) (c : Fin 128) (d : Fin 256) :
    w (ix3 g c d) = ((wtsOf w g c d : ℝ) : EReal) := coe_of (h.2 _)

/-! ## The run's array -/

variable (m : (ℓ : Loc nD τ sig) → Buf (Elt Ideal) ℓ) (c : Dev nD)

theorem V_t1 : V m c main_v22 = tab1 := by
  dsimp only [V]
  after_results
  rfl
theorem V_t2 : V m c main_v48 = tab2 := by
  dsimp only [V]
  after_results
  rfl
theorem V_in : V m c main_v0 = (shapeCast S2x8192x5248 (m ((c : Thread nD τ).loc main_arg0)) shapeCasts_S16384x5248_S2x8192x5248 : Vec Ideal S2x8192x5248 .f32) := by
  dsimp only [V]
  after_results
  rfl

theorem idx0 : ∀ t : Fin cfg0.N, win0_0.index t = ![t.val / 4, 0, 32 + t.val % 4] := (by decide +kernel : ∀ t : Fin grid0.N, _)
theorem idx1 : ∀ t : Fin cfg0.N, win0_1.index t = ![t.val % 4, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val / 4, 0, t.val % 4] := (by decide +kernel : ∀ t : Fin grid0.N, _)

/-- A point's sequence and group. -/
def seqOf (t : Fin cfg0.N) : Fin 2 := ⟨t.val / 4, by have h : t.val < 8 := t.isLt; omega⟩
def grpOf (t : Fin cfg0.N) : Fin 4 := ⟨t.val % 4, by omega⟩

theorem blk_in (t : Fin cfg0.N) (s : Fin 8192) (e : Fin 128) : (iblk m c 0 t : Vec Ideal S1x8192x128 .f32) (ix3 0 s e)
    = (m ((c : Thread nD τ).loc main_arg0) : Vec Ideal S16384x5248 .f32)
        (ix2 ⟨(seqOf t).val * 8192 + s.val, by omega⟩ ⟨4096 + (grpOf t).val * 128 + e.val, by omega⟩) := by
  have h (a : Vec Ideal S16384x5248 .f32) (b : Fin 2) (q : Fin 5248) :
      shapeCast S2x8192x5248 a shapeCasts_S16384x5248_S2x8192x5248 (ix3 b s q) = a (ix2 ⟨b.val * 8192 + s.val, by omega⟩ q) := by
    pointwise
  blk_simp [iblk]
  rw [show (win0_0.blk t).view.emb (ix3 0 s e) = ix3 (seqOf t) s ⟨4096 + (grpOf t).val * 128 + e.val, by omega⟩ by
    blk_ext [idx0, seqOf, grpOf]]
  exact (congrFun (V_in m c) _).trans (h _ _ _)

theorem blk_w (t : Fin cfg0.N) (k : Fin 128) (d : Fin 256) : (iblk m c 1 t : Vec Ideal S1x128x256 .f32) (ix3 0 k d)
    = (m ((c : Thread nD τ).loc main_arg1) : Vec Ideal S4x128x256 .f32) (ix3 (grpOf t) k d) := by
  blk_simp [iblk]
  rw [show (win0_1.blk t).view.emb (ix3 0 k d) = ix3 (grpOf t) k d by blk_ext [idx1, grpOf]]
  exact congrFun (V_main_arg1 m c) _

theorem blk_t1 (t : Fin cfg0.N) : (iblk m c 2 t : Vec Ideal S128x128 .f32) = tab1 := by
  funext i
  rw [eq_ix2 (n0 := 128) (n1 := 128) i]
  blk_simp [iblk]
  rw [show (win0_2.blk t).view.emb (ix2 (i 0) (i 1)) = ix2 (i 0) (i 1) by blk_ext [idx2]]
  exact congrFun (V_t1 m c) _

theorem blk_t2 (t : Fin cfg0.N) : (iblk m c 3 t : Vec Ideal S64x128x256 .f32) = tab2 := by
  funext i
  rw [eq_ix3 (n0 := 64) (n1 := 128) (n2 := 256) i]
  blk_simp [iblk]
  rw [show (win0_3.blk t).view.emb (ix3 (i 0) (i 1) (i 2)) = ix3 (i 0) (i 1) (i 2) by blk_ext [idx3]]
  exact congrFun (V_t2 m c) _

theorem res_at (x : Vec Ideal S16384x5248 .f32) (w : Vec Ideal S4x128x256 .f32) (b : Fin 2) (p : Fin 8192) (g : Fin 4) (e : Fin 128) :
    res x w (ix3 b p ⟨g.val * 128 + e.val, by omega⟩) = resAt x w b p g e := by
  show resAt x w b p ⟨(g.val * 128 + e.val) / 128, _⟩ ⟨(g.val * 128 + e.val) % 128, _⟩ = _
  have h1 : (g.val * 128 + e.val) / 128 = g.val := by omega
  have h2 : (g.val * 128 + e.val) % 128 = e.val := by omega
  congr 1 <;> exact Fin.ext (by assumption)

/-- Where a point's block lies in the result. -/
theorem emb_out (t : Fin cfg0.N) (p : Fin 8192) (e : Fin 128) : (win0_4.blk t).view.emb (ix3 0 p e)
    = ix3 (n0 := 2) (n1 := 8192) (n2 := 512) (seqOf t) p ⟨(grpOf t).val * 128 + e.val, by omega⟩ := by
  blk_ext [idx4, seqOf, grpOf]

/-- THE KERNEL'S RESULT ARRAY, of finite arguments. -/
theorem final (h : Real5 (m ((c : Thread nD τ).loc main_arg0)) (m ((c : Thread nD τ).loc main_arg1))) :
    (dats m 0 c).arrAt 4 cfg0.N = res (m ((c : Thread nD τ).loc main_arg0)) (m ((c : Thread nD τ).loc main_arg1)) := by
  refine (dats m 0 c).arrAt_eq_of_covers 4 _ (by decide +kernel) fun t hf y => ?_
  have e0 : ∀ s e, (iblk m c 0 t : Vec Ideal S1x8192x128 .f32) (ix3 0 s e) = _ := fun s e => (blk_in m c t s e).trans (colsOf_eq h _ _ _ _)
  have e1 : ∀ k d, (iblk m c 1 t : Vec Ideal S1x128x256 .f32) (ix3 0 k d) = _ := fun k d => (blk_w m c t k d).trans (wtsOf_eq h _ _ _)
  have e2 : Tab1 (iblk m c 2 t) := by rw [blk_t1]; exact tab1_ok
  have e3 : Tab2 (iblk m c 3 t) := by rw [blk_t2]; exact tab2_ok
  have hy : y = ix3 (n0 := 1) (n1 := 8192) (n2 := 128) 0 (y 1) (y 2) :=
    (eq_ix3 (n0 := 1) (n1 := 8192) (n2 := 128) y).trans (by rw [show y 0 = (0 : Fin 1) from Subsingleton.elim (α := Fin 1) _ _])
  blk_simp
  rw [after4, hy]
  exact (out_at e0 e1 e2 e3 (y 1) (y 2)).trans ((congrArg _ (emb_out t (y 1) (y 2))).trans (res_at _ _ _ _ _ _)).symm

/-- The run with its result array named, the arguments unchanged. -/
theorem run_named (ρ : Dev nD → PrngReg) : θ_run defs (onTc (τ := τ) (main (F := Ideal))) ⟨m, fun _ => 0, ρ⟩ fun r => ∀ c : Dev nD,
      r.2.mem ((c.tc : Thread nD τ).loc main_v49) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.1 c).1 4, h.2.1 c⟩) (θ_run_and (post_run m ρ) (frame_ideal m ρ))

end Cert.Fnet

end
-- ==== Proof.Wts.Ref.lean ====
/- The mixing weights' reference read down to the same result, and what the precondition says of an entry. -/
module

public import proofs.«01_k».proof.Proof.Wts.Arr
public import proofs.«01_k».proof.Proof.Gen.Reference4Ideal.Read
public import proofs.«01_k».proof.Proof.Gen.Pre_finite_weight
public import Idealize.ShloMosaic.Lib.ReduceAll

@[expose] public section

set_option maxRecDepth 16384

noncomputable section

namespace Cert.Wts.Ref

open Cert.Reference4Ideal Cert.Reference4Ideal.Gen Cert.Reference4Ideal.Read Idealize.ShloMosaic Idealize.ShloMosaic.Pointwise

/-- A number whose absolute value is below the upper infinity is neither infinity. -/
theorem real_of_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

theorem real_of_pre (w : Vec Ideal S1x4x128x128 .f32) (h : Cert.Pre_finite_weight.fn (F := Ideal) w = fun _ => 1#1)
    (i : S1x4x128x128.Idx) : IsReal (w i) :=
  real_of_lt (Host.reduce_andi_all _ _ _ _ _ (congrFun h default) i)

variable (x : Vec Ideal S1x4x128x128 .f32) (g : Fin 4) (c : Fin 128)

theorem v16 : val_main_v16 (F := Ideal) = ct := rfl
theorem v21 : val_main_v21 (F := Ideal) = st := rfl

theorem v20_at (e : Fin 128) : val_main_v20 (F := Ideal) x (ix3 g c e) = dot ct (fun k e => x (ix4 0 g k e)) c e := by
  unfold val_main_v20 val_main_v18 val_main_v17
  rw [v16]
  generalize ct = y
  pointwise [val_main_v0, val_main_v19, val_main_cst_2, dot]
  simp only [mul_comm]

theorem v26_at (e : Fin 128) : val_main_v26 (F := Ideal) x (ix3 g c e) = - dot st (fun k e => x (ix4 0 g k e)) c e := by
  unfold val_main_v26 val_main_v25 val_main_v23 val_main_v22
  rw [v21]
  generalize st = y
  pointwise [val_main_v0, val_main_v24, val_main_cst_3, dot]
  simp only [mul_comm]

/-- THE REFERENCE'S RESULT is the mixing weights. -/
theorem val_res : val_main_v27 (F := Ideal) x = res x := by
  suffices h : ∀ (g : Fin 4) (c : Fin 128) (e : Fin 256), val_main_v27 (F := Ideal) x (ix3 g c e) = res x (ix3 g c e) by
    funext y
    rw [eq_ix3 (n0 := 4) (n1 := 128) (n2 := 256) y]
    exact h (y 0) (y 1) (y 2)
  intro g c e
  have h20 := v20_at x g c
  have h26 := v26_at x g c
  unfold val_main_v27
  generalize val_main_v20 (F := Ideal) x = y at h20 ⊢
  generalize val_main_v26 (F := Ideal) x = z at h26 ⊢
  pointwise
  show _ = half ct st (fun k e => x (ix4 0 g k e)) c e
  unfold half
  by_cases h : e.val < 128
  · rw [dif_pos h, dif_pos h, h20]
  · rw [dif_neg h, dif_neg h, h26]

end Cert.Wts.Ref

end
-- ==== Proof.Fnet.Ref.lean ====
/- The Fourier reference read down to the same result, and what the precondition says of the arguments. -/
module

public import proofs.«01_k».proof.Proof.Fnet.Arr
public import proofs.«01_k».proof.Proof.Wts.Ref
public import proofs.«01_k».proof.Proof.Gen.Reference5Ideal.Read
public import proofs.«01_k».proof.Proof.Gen.Pre_finite
public import Idealize.ShloMosaic.Lib.ReduceAll

@[expose] public section

set_option maxRecDepth 16384

noncomputable section

namespace Cert.Fnet.Ref

open Cert.Reference5Ideal Cert.Reference5Ideal.Gen Cert.Reference5Ideal.Read Idealize.ShloMosaic Idealize.ShloMosaic.Pointwise
open Cert.Wts (IsReal)
open Real (cos sin)

theorem real_of_pre (x : Vec Ideal S16384x5248 .f32) (w : Vec Ideal S4x128x256 .f32) (h : Cert.Pre_finite.fn (F := Ideal) x w = fun _ => 1#1) : Real5 x w := by
  obtain ⟨hx, hw⟩ := IntOp.andi_eq_one.1 (congrFun h default)
  refine ⟨fun r e => ?_, fun i => Cert.Wts.Ref.real_of_lt (Host.reduce_andi_all _ _ _ _ _ hw i)⟩
  have hr := Cert.Wts.Ref.real_of_lt (Host.reduce_andi_all _ _ _ _ _ hx (ix2 r e))
  have hi (a : Vec Ideal S16384x5248 .f32) : extractStridedSlice S16384x512 ![0, 4096] a slices_S16384x5248_S16384x512_0_4096 (ix2 r e)
      = a (ix2 r ⟨4096 + e.val, by omega⟩) := by
    pointwise
  exact (congrArg IsReal (hi x)).mp hr

variable {x : Vec Ideal S16384x5248 .f32} {w : Vec Ideal S4x128x256 .f32}

theorem v18_at (p s : Fin 8192) : val_main_v18 (F := Ideal) (ix2 p s) = ((turn (p.val * s.val) 8192 : ℝ) : EReal) := by
  have hb : p.val * s.val < 8192 * 8192 := Nat.mul_lt_mul'' p.isLt s.isLt
  refine Eq.trans ?_ (angle_eq .host (p.val * s.val) 8192 0x46000000#32 (by omega) (by norm_num) (by norm_num) len8192)
  unfold angle_of
  pointwise [val_main_v18, val_main_v17, val_main_v16, val_main_v15, val_main_v14, val_main_v13, val_main_v12, val_main_v11, val_main_v10, val_main_v9,
    val_main_v8, val_main_v7, val_main_v6, val_main_v5, val_main_v4, val_main_cst, val_main_cst_0, val_main_cst_1, val_main_c]
  rw [BitVec.ofNat_mul]
  rfl

theorem v19_at (p s : Fin 8192) : val_main_v19 (F := Ideal) (ix2 p s) = ((cos (turn (p.val * s.val) 8192) : ℝ) : EReal) := by
  have h := v18_at p s
  unfold val_main_v19
  generalize val_main_v18 (F := Ideal) = a at h ⊢
  pointwise
  rw [h, Ideal.cos_coe]

theorem v23_at (p s : Fin 8192) : val_main_v23 (F := Ideal) (ix2 p s) = ((sin (turn (p.val * s.val) 8192) : ℝ) : EReal) := by
  have h := v18_at p s
  unfold val_main_v23
  generalize val_main_v18 (F := Ideal) = a at h ⊢
  pointwise
  rw [h, Ideal.sin_coe]

theorem v1_at (b : Fin 2) (s : Fin 8192) (g : Fin 4) (c : Fin 128) : val_main_v1 (F := Ideal) x (ix4 b s g c)
    = x (ix2 ⟨b.val * 8192 + s.val, by omega⟩ ⟨4096 + g.val * 128 + c.val, by omega⟩) := by
  pointwise [val_main_v1, val_main_v0]
  simp only [Nat.add_assoc]

theorem v3_at (h : Real5 x w) (b : Fin 2) (s : Fin 8192) (g : Fin 4) (d : Fin 256) : val_main_v3 (F := Ideal) x w (ix4 b s g d)
    = ((∑ c, colsOf x b g s c * wtsOf w g c d : ℝ) : EReal) := by
  have h1 := fun c => (v1_at (x := x) b s g c).trans (colsOf_eq h b g s c)
  have h2 := fun c => wtsOf_eq h g c d
  unfold val_main_v3 val_main_v2
  generalize val_main_v1 (F := Ideal) x = y at h1 ⊢
  pointwise
  exact (dot_coe h2 h1).trans (by simp only [mul_comm])

theorem v22_at (h : Real5 x w) (b : Fin 2) (p : Fin 8192) (g : Fin 4) (e : Fin 128) : val_main_v22 (F := Ideal) x w (ix4 b p g e)
    = ((∑ s, mixRe (colsOf x b g) (wtsOf w g) e s * cos (turn (p.val * s.val) 8192) : ℝ) : EReal) := by
  have h1 := fun s => v3_at h b s g (fst128 e)
  have h2 := fun s => v19_at p s
  unfold val_main_v22 val_main_v21 val_main_v20
  generalize val_main_v3 (F := Ideal) x w = y at h1 ⊢
  generalize val_main_v19 (F := Ideal) = z at h2 ⊢
  pointwise
  exact dot_coe h1 h2

theorem v26_at (h : Real5 x w) (b : Fin 2) (p : Fin 8192) (g : Fin 4) (e : Fin 128) : val_main_v26 (F := Ideal) x w (ix4 b p g e)
    = ((∑ s, mixIm (colsOf x b g) (wtsOf w g) e s * sin (turn (p.val * s.val) 8192) : ℝ) : EReal) := by
  have h1 := fun s => v3_at h b s g (snd128 e)
  have h2 := fun s => v23_at p s
  unfold val_main_v26 val_main_v25 val_main_v24
  generalize val_main_v3 (F := Ideal) x w = y at h1 ⊢
  generalize val_main_v23 (F := Ideal) = z at h2 ⊢
  pointwise
  exact dot_coe h1 h2

/-- THE REFERENCE'S RESULT is the same, of finite arguments. -/
theorem val_res (h : Real5 x w) : val_main_v28 (F := Ideal) x w = res x w := by
  suffices hh : ∀ (b : Fin 2) (p : Fin 8192) (q : Fin 512), val_main_v28 (F := Ideal) x w (ix3 b p q) = res x w (ix3 b p q) by
    funext y
    rw [eq_ix3 (n0 := 2) (n1 := 8192) (n2 := 512) y]
    exact hh (y 0) (y 1) (y 2)
  intro b p q
  have h1 := v22_at h b p ⟨q.val / 128, by omega⟩ ⟨q.val % 128, by omega⟩
  have h2 := v26_at h b p ⟨q.val / 128, by omega⟩ ⟨q.val % 128, by omega⟩
  have hs : val_main_v28 (F := Ideal) x w (ix3 b p q) = val_main_v22 (F := Ideal) x w (ix4 b p ⟨q.val / 128, by omega⟩ ⟨q.val % 128, by omega⟩)
      + val_main_v26 (F := Ideal) x w (ix4 b p ⟨q.val / 128, by omega⟩ ⟨q.val % 128, by omega⟩) := by
    unfold val_main_v28 val_main_v27
    generalize val_main_v22 (F := Ideal) x w = y
    generalize val_main_v26 (F := Ideal) x w = z
    pointwise
  rw [hs, h1, h2, ← EReal.coe_add]
  rfl

end Cert.Fnet.Ref

end
-- ==== Proof.Even.Spec.lean ====
/- What one even layer computes, as plain functions over the extended reals: both programs' results are read down to
   these. -/
module

public import Idealize.ShloMosaic.Lib.Pointwise

@[expose] public section

noncomputable section

namespace Cert.Even

open Idealize.ShloMosaic

/-- The row length 1024, and the two small constants under the square roots, as the programs write them. -/
abbrev len : EReal := Ideal.ofBits .f32 0x44800000#32
abbrev epsR : EReal := Ideal.ofBits .f32 0x358637BD#32
abbrev epsL : EReal := Ideal.ofBits .f32 0x3727C5AC#32

/-- A row scaled by its root mean square and by the gain. -/
def nrm (x g : Fin 1024 → EReal) (k : Fin 1024) : EReal :=
  x k * Ideal.rsqrt (Ideal.div (∑ j : Fin 1024, x j * x j) len + epsR) * g k

/-- One entry of the input projection: the scaled row times a column of the weight. -/
def prj (x g w : Fin 1024 → EReal) : EReal := ∑ d : Fin 1024, nrm x g d * w d

/-- `z` times its logistic. -/
def silu (z : EReal) : EReal := z * Ideal.logistic z

/-- A row less its mean. -/
def cen (v : Fin 1024 → EReal) (k : Fin 1024) : EReal := v k - Ideal.div (∑ j : Fin 1024, v j) len

/-- The layer norm of a row. -/
def lnm (v g b : Fin 1024 → EReal) (k : Fin 1024) : EReal :=
  cen v k * Ideal.rsqrt (Ideal.div (∑ j : Fin 1024, cen v j * cen v j) len + epsL) * g k + b k

/-- Column `c` of column block `o` of the input weight. -/
def wcol (W : Fin 1024 → Fin 7168 → EReal) (o : Fin 7) (c : Fin 1024) (d : Fin 1024) : EReal :=
  W d ⟨1024 * o.val + c.val, by omega⟩

/-- The arrays of one layer: token rows by their number, and the weights. -/
structure Ins where
  X : ℕ → Fin 1024 → EReal
  g : Fin 1024 → EReal
  W : Fin 1024 → Fin 7168 → EReal
  cw : Fin 3 → Fin 1024 → EReal
  lg : Fin 1024 → EReal
  lb : Fin 1024 → EReal
  sw : Fin 8 → Fin 128 → Fin 128 → EReal
  sb : Fin 8 → Fin 128 → EReal
  Wo : Fin 2048 → Fin 1024 → EReal

variable (I : Ins)

/-- Entry `c` of projection block `o` at token `n`. -/
def P (o : Fin 7) (n : ℕ) (c : Fin 1024) : EReal := prj (I.X n) I.g (wcol I.W o c)

/-- The convolution's input: the two gates' product. -/
def gate (n : ℕ) (c : Fin 1024) : EReal := P I 0 n c * P I 2 n c

def prev (n : ℕ) (c : Fin 1024) : EReal := if n % 8192 = 0 then 0 else gate I (n - 1) c
def next (n : ℕ) (c : Fin 1024) : EReal := if (n + 1) % 8192 = 0 then 0 else gate I (n + 1) c

/-- The short convolution's branch. -/
def brA (n : ℕ) (c : Fin 1024) : EReal :=
  P I 1 n c * (I.cw 0 c * prev I n c + I.cw 1 c * gate I n c + I.cw 2 c * next I n c) * silu (P I 3 n c)

/-- The layer norm of the branch's values. -/
def vn (n : ℕ) (c : Fin 1024) : EReal := lnm (P I 5 n) I.lg I.lb c

/-- The mixing within a chunk of 128 tokens, a matrix for each group of 128 columns. -/
def mix (n : ℕ) (c : Fin 1024) : EReal :=
  (∑ k : Fin 128, I.sw ⟨c.val / 128, by omega⟩ ⟨n % 128, by omega⟩ k * vn I (n / 128 * 128 + k.val) c)
    + I.sb ⟨c.val / 128, by omega⟩ ⟨n % 128, by omega⟩

/-- The spatial gating branch. -/
def brB (n : ℕ) (c : Fin 1024) : EReal := P I 4 n c * mix I n c * silu (P I 6 n c)

/-- The layer's result. -/
def out (n : ℕ) (c : Fin 1024) : EReal :=
  I.X n c + ∑ k : Fin 1024, brA I n k * I.Wo ⟨k.val, by omega⟩ c
    + ∑ k : Fin 1024, brB I n k * I.Wo ⟨1024 + k.val, by omega⟩ c

end Cert.Even

end
-- ==== Proof.Even.Blk1.lean ====
/- The even layer's kernel body read at an index: the norm, the projections, the convolution branch and the layer norm. -/
module

public import proofs.«01_k».proof.Proof.Gen.KernelIdeal.Skeleton
public import proofs.«01_k».proof.Proof.Even.Spec
public import Idealize.ShloMosaic.Lib.WordCmp

@[expose] public section

set_option maxRecDepth 16384

noncomputable section

namespace Cert.Even

open Cert.KernelIdeal Cert.KernelIdeal.Gen Idealize.ShloMosaic Idealize.ShloMosaic.WordCmp

/-- A choice by the equality of two small numbers held in words. -/
theorem select_eq_ofNat (n m : ℕ) (hn : n < 512) (hm : m < 512) (a b : EReal) :
    Scalar.select (IntOp.cmpi CmpIPredicate.eq (BitVec.ofNat 32 n) (BitVec.ofNat 32 m)) a b = if n = m then a else b := by
  rw [cmpi_eq_ofNat (by omega) (by omega)]
  by_cases h : n = m <;> simp [Scalar.select, h]

variable (v30 : FVec Ideal S528x1024 .f32) (v33 v34 : FVec Ideal S528x1 .f32) (g : Vec Ideal S1x1024 .f32)
  (wa wc : Vec Ideal S1024x1024 .bf16)

/-- A row of the block with its eight rows before and after. -/
theorem pay3_apply (a : Vec Ideal S512x1024 .f32) (b c : Vec Ideal S8x1024 .f32) (e : Fin 528) (k : Fin 1024) :
    k0_pay3 (F := Ideal) a b c (ix2 e k)
      = if h : e.val < 8 then b (ix2 ⟨e.val, h⟩ k)
        else if h' : e.val - 8 < 512 then a (ix2 ⟨e.val - 8, h'⟩ k) else c (ix2 ⟨e.val - 8 - 512, by omega⟩ k) := by
  pointwise [k0_pay3, k0_pay2]

theorem pay4_apply (a : Vec Ideal S512x1024 .f32) (b c : Vec Ideal S8x1024 .f32) (e : Fin 528) (z : Fin 1) :
    k0_pay4 (F := Ideal) a b c (ix2 e z)
      = ∑ k : Fin 1024, k0_pay3 (F := Ideal) a b c (ix2 e k) * k0_pay3 (F := Ideal) a b c (ix2 e k) := by
  pointwise [k0_pay4]

theorem pay5_apply (e : Fin 528) (z : Fin 1) : k0_pay5 (F := Ideal) (ix2 e z) = len := by
  pointwise [k0_pay5]

theorem pay6_apply (e : Fin 528) (k : Fin 1024) :
    k0_pay6 (F := Ideal) v30 v33 v34 g (ix2 e k)
      = v30 (ix2 e k) * Ideal.rsqrt (Ideal.div (v33 (ix2 e 0)) (v34 (ix2 e 0)) + epsR) * g (ix2 0 k) := by
  pointwise [k0_pay6]

theorem pay7_apply (r : Fin 512) (k : Fin 1024) :
    k0_pay7 (F := Ideal) v30 v33 v34 g (ix2 r k) = k0_pay6 (F := Ideal) v30 v33 v34 g (ix2 ⟨8 + r.val, by omega⟩ k) := by
  pointwise [k0_pay7]

theorem pay8_apply (e : Fin 528) (k : Fin 1024) :
    k0_pay8 (F := Ideal) v30 v33 v34 g wa wc (ix2 e k)
      = (∑ d : Fin 1024, k0_pay6 (F := Ideal) v30 v33 v34 g (ix2 e d) * wa (ix2 d k))
        * ∑ d : Fin 1024, k0_pay6 (F := Ideal) v30 v33 v34 g (ix2 e d) * wc (ix2 d k) := by
  pointwise [k0_pay8]

theorem pay9_apply (r : Fin 512) (k : Fin 1024) :
    k0_pay9 (F := Ideal) v30 v33 v34 g wa wc (ix2 r k)
      = k0_pay8 (F := Ideal) v30 v33 v34 g wa wc (ix2 ⟨8 + r.val, by omega⟩ k) := by
  pointwise [k0_pay9]

theorem pay10_apply (r : Fin 512) (k : Fin 1024) :
    k0_pay10 (F := Ideal) v30 v33 v34 g wa (ix2 r k)
      = ∑ d : Fin 1024, k0_pay7 (F := Ideal) v30 v33 v34 g (ix2 r d) * wa (ix2 d k) := by
  pointwise [k0_pay10]

theorem pay11_apply (r : Fin 512) (k : Fin 1024) :
    k0_pay11 (F := Ideal) v30 v33 v34 g wa (ix2 r k)
      = ∑ d : Fin 1024, k0_pay7 (F := Ideal) v30 v33 v34 g (ix2 r d) * wa (ix2 d k) := by
  pointwise [k0_pay11]

/-- The gated row after the block, or zero at a sequence's end. -/
theorem pay12_apply (q : BitVec 1) (z : Fin 1) (k : Fin 1024) :
    k0_pay12 (F := Ideal) q v30 v33 v34 g wa wc (ix2 z k)
      = if q = 1#1 then 0 else k0_pay8 (F := Ideal) v30 v33 v34 g wa wc (ix2 520 k) := by
  pointwise [k0_pay12]
  rfl

/-- The gated row before each row. -/
theorem pay13_apply (q : BitVec 1) (r : Fin 512) (k : Fin 1024) :
    k0_pay13 (F := Ideal) q v30 v33 v34 g wa wc (ix2 r k)
      = if r.val = 0 then (if q = 1#1 then 0 else k0_pay8 (F := Ideal) v30 v33 v34 g wa wc (ix2 7 k))
        else k0_pay8 (F := Ideal) v30 v33 v34 g wa wc (ix2 ⟨7 + r.val, by omega⟩ k) := by
  pointwise [k0_pay13]
  rw [select_eq_ofNat r.val 0 r.isLt (by omega), pay9_apply]
  split
  · rfl
  · congr 2
    exact Fin.ext (by show 8 + (r.val + 512 - 1) % 512 = 7 + r.val; omega)

/-- The convolution's branch. -/
theorem pay14_apply (x b z : FVec Ideal S512x1024 .f32) (h : FVec Ideal S1x1024 .f32) (p : FVec Ideal S512x1024 .f32)
    (w0 w1 w2 : Vec Ideal S1x1024 .f32) (r : Fin 512) (k : Fin 1024) :
    k0_pay14 (F := Ideal) x b z h (iota .tc S512x1 32 [0] iota_S512x1_d0_w32) p w0 w1 w2 (ix2 r k)
      = b (ix2 r k) * (w0 (ix2 0 k) * p (ix2 r k) + w1 (ix2 0 k) * x (ix2 r k)
          + w2 (ix2 0 k) * (if h' : r.val + 1 < 512 then x (ix2 ⟨r.val + 1, h'⟩ k) else h (ix2 0 k)))
        * silu (z (ix2 r k)) := by
  pointwise [k0_pay14]
  rw [select_eq_ofNat r.val 511 r.isLt (by omega), zero_sub]
  have e : (if r.val = 511 then h (ix2 0 k) else x (ix2 ⟨(r.val + 512 - 511) % 512, Nat.mod_lt _ (by omega)⟩ k))
      = if h' : r.val + 1 < 512 then x (ix2 ⟨r.val + 1, h'⟩ k) else h (ix2 0 k) := by
    by_cases h' : r.val + 1 < 512
    · rw [if_neg (by omega), dif_pos h']
      congr 2
      exact Fin.ext (by show (r.val + 512 - 511) % 512 = r.val + 1; omega)
    · rw [if_pos (by omega), dif_neg h']
  rw [e]
  rfl

theorem pay15_apply (y : FVec Ideal S512x1024 .bf16) (r : Fin 512) (k : Fin 1024) :
    k0_pay15 (F := Ideal) y wa (ix2 r k) = cen (fun c => ∑ d : Fin 1024, y (ix2 r d) * wa (ix2 d c)) k := by
  pointwise [k0_pay15, cen]

theorem pay16_apply (y : FVec Ideal S512x1024 .bf16) (r : Fin 512) :
    k0_pay16 (F := Ideal) y wa (ix1 r)
      = ∑ k : Fin 1024, k0_pay15 (F := Ideal) y wa (ix2 r k) * k0_pay15 (F := Ideal) y wa (ix2 r k) := by
  pointwise [k0_pay16]

theorem pay17_apply (y : FVec Ideal S512x1024 .f32) (s : FVec Ideal S512 .f32) (a b : Vec Ideal S1x1024 .f32) (r : Fin 512) (k : Fin 1024) :
    k0_pay17 (F := Ideal) y s a b (ix2 r k)
      = y (ix2 r k) * Ideal.rsqrt (Ideal.div (s (ix1 r)) len + epsL) * a (ix2 0 k) + b (ix2 0 k) := by
  pointwise [k0_pay17]

end Cert.Even

end
-- ==== Proof.Even.Blk2.lean ====
/- The even layer's kernel body read at an index: the mixing of each chunk of 128 tokens, and the result. -/
module

public import proofs.«01_k».proof.Proof.Even.Blk1

@[expose] public section

set_option maxRecDepth 16384

noncomputable section

namespace Cert.Even

open Cert.KernelIdeal Cert.KernelIdeal.Gen Idealize.ShloMosaic

variable (y : FVec Ideal S512x1024 .f32) (s : FVec Ideal S512 .f32) (a b : Vec Ideal S1x1024 .f32)
  (V : FVec Ideal S512x1024 .bf16) (s0 s1 s2 s3 s4 s5 s6 s7 : Vec Ideal S1x128x128 .bf16) (bias : Vec Ideal S128x1024 .f32)

/-- One group of a chunk: the ladder's branch for the group that holds the column is the sum for that column. -/
theorem group (T : Fin 8 → Vec Ideal S1x128x128 .bf16) (V : FVec Ideal S512x1024 .bf16) (row : Fin 128 → Fin 512) (i : Fin 128)
    (k k' : Fin 1024) (g g' : Fin 8) (hg : g = g') (hk : k' = k) :
    ∑ x : Fin 128, T g (ix3 0 i x) * V (ix2 (row x) k') = ∑ x : Fin 128, T g' (ix3 0 i x) * V (ix2 (row x) k) := by
  rw [hg, hk]

theorem chunk0 (i : Fin 128) (k : Fin 1024) :
    k0_pay23 (F := Ideal) (k0_pay17 y s a b) (k0_pay18 y s a b s0) (k0_pay19 y s a b s1) (k0_pay20 y s a b s2)
        (k0_pay21 y s a b s3) (k0_pay22 s4) s5 s6 s7 bias (ix2 i k)
      = (∑ j : Fin 128, (![s0, s1, s2, s3, s4, s5, s6, s7] ⟨k.val / 128, by omega⟩) (ix3 0 i j)
            * k0_pay17 (F := Ideal) y s a b (ix2 ⟨j.val, by omega⟩ k)) + bias (ix2 i k) := by
  pointwise [k0_pay18, k0_pay19, k0_pay20, k0_pay21, k0_pay22, k0_pay23]
  congr 1
  by_cases h0 : k.val < 128
  · rw [dif_pos h0]
    exact group ![s0, s1, s2, s3, s4, s5, s6, s7] _ (fun x => ⟨x.val, by omega⟩) i k _ 0 _ (Fin.ext (by show 0 = k.val / 128; omega)) rfl
  rw [dif_neg h0]
  by_cases h1 : k.val - 128 < 128
  · rw [dif_pos h1]
    exact group ![s0, s1, s2, s3, s4, s5, s6, s7] _ (fun x => ⟨x.val, by omega⟩) i k _ 1 _ (Fin.ext (by show 1 = k.val / 128; omega)) (Fin.ext (by show 128 + (k.val - 128) = k.val; omega))
  rw [dif_neg h1]
  by_cases h2 : k.val - 128 - 128 < 128
  · rw [dif_pos h2]
    exact group ![s0, s1, s2, s3, s4, s5, s6, s7] _ (fun x => ⟨x.val, by omega⟩) i k _ 2 _ (Fin.ext (by show 2 = k.val / 128; omega)) (Fin.ext (by show 256 + (k.val - 128 - 128) = k.val; omega))
  rw [dif_neg h2]
  by_cases h3 : k.val - 128 - 128 - 128 < 128
  · rw [dif_pos h3]
    exact group ![s0, s1, s2, s3, s4, s5, s6, s7] _ (fun x => ⟨x.val, by omega⟩) i k _ 3 _ (Fin.ext (by show 3 = k.val / 128; omega)) (Fin.ext (by show 384 + (k.val - 128 - 128 - 128) = k.val; omega))
  rw [dif_neg h3]
  by_cases h4 : k.val - 128 - 128 - 128 - 128 < 128
  · rw [dif_pos h4]
    exact group ![s0, s1, s2, s3, s4, s5, s6, s7] _ (fun x => ⟨x.val, by omega⟩) i k _ 4 _ (Fin.ext (by show 4 = k.val / 128; omega)) (Fin.ext (by show 512 + (k.val - 128 - 128 - 128 - 128) = k.val; omega))
  rw [dif_neg h4]
  by_cases h5 : k.val - 128 - 128 - 128 - 128 - 128 < 128
  · rw [dif_pos h5]
    exact group ![s0, s1, s2, s3, s4, s5, s6, s7] _ (fun x => ⟨x.val, by omega⟩) i k _ 5 _ (Fin.ext (by show 5 = k.val / 128; omega)) (Fin.ext (by show 640 + (k.val - 128 - 128 - 128 - 128 - 128) = k.val; omega))
  rw [dif_neg h5]
  by_cases h6 : k.val - 128 - 128 - 128 - 128 - 128 - 128 < 128
  · rw [dif_pos h6]
    exact group ![s0, s1, s2, s3, s4, s5, s6, s7] _ (fun x => ⟨x.val, by omega⟩) i k _ 6 _ (Fin.ext (by show 6 = k.val / 128; omega)) (Fin.ext (by show 768 + (k.val - 128 - 128 - 128 - 128 - 128 - 128) = k.val; omega))
  rw [dif_neg h6]
  exact group ![s0, s1, s2, s3, s4, s5, s6, s7] _ (fun x => ⟨x.val, by omega⟩) i k _ 7 _ (Fin.ext (by show 7 = k.val / 128; omega)) (Fin.ext (by show 896 + (k.val - 128 - 128 - 128 - 128 - 128 - 128 - 128) = k.val; omega))

theorem chunk1 (i : Fin 128) (k : Fin 1024) :
    k0_pay27 (F := Ideal) V (k0_pay24 V s0) (k0_pay25 V s1) (k0_pay26 V s2) s3 s4 s5 s6 s7 bias (ix2 i k)
      = (∑ j : Fin 128, (![s0, s1, s2, s3, s4, s5, s6, s7] ⟨k.val / 128, by omega⟩) (ix3 0 i j)
            * V (ix2 ⟨128 + j.val, by omega⟩ k)) + bias (ix2 i k) := by
  pointwise [k0_pay24, k0_pay25, k0_pay26, k0_pay27]
  congr 1
  by_cases h0 : k.val < 128
  · rw [dif_pos h0]
    exact group ![s0, s1, s2, s3, s4, s5, s6, s7] _ (fun x => ⟨128 + x.val, by omega⟩) i k _ 0 _ (Fin.ext (by show 0 = k.val / 128; omega)) rfl
  rw [dif_neg h0]
  by_cases h1 : k.val - 128 < 128
  · rw [dif_pos h1]
    exact group ![s0, s1, s2, s3, s4, s5, s6, s7] _ (fun x => ⟨128 + x.val, by omega⟩) i k _ 1 _ (Fin.ext (by show 1 = k.val / 128; omega)) (Fin.ext (by show 128 + (k.val - 128) = k.val; omega))
  rw [dif_neg h1]
  by_cases h2 : k.val - 128 - 128 < 128
  · rw [dif_pos h2]
    exact group ![s0, s1, s2, s3, s4, s5, s6, s7] _ (fun x => ⟨128 + x.val, by omega⟩) i k _ 2 _ (Fin.ext (by show 2 = k.val / 128; omega)) (Fin.ext (by show 256 + (k.val - 128 - 128) = k.val; omega))
  rw [dif_neg h2]
  by_cases h3 : k.val - 128 - 128 - 128 < 128
  · rw [dif_pos h3]
    exact group ![s0, s1, s2, s3, s4, s5, s6, s7] _ (fun x => ⟨128 + x.val, by omega⟩) i k _ 3 _ (Fin.ext (by show 3 = k.val / 128; omega)) (Fin.ext (by show 384 + (k.val - 128 - 128 - 128) = k.val; omega))
  rw [dif_neg h3]
  by_cases h4 : k.val - 128 - 128 - 128 - 128 < 128
  · rw [dif_pos h4]
    exact group ![s0, s1, s2, s3, s4, s5, s6, s7] _ (fun x => ⟨128 + x.val, by omega⟩) i k _ 4 _ (Fin.ext (by show 4 = k.val / 128; omega)) (Fin.ext (by show 512 + (k.val - 128 - 128 - 128 - 128) = k.val; omega))
  rw [dif_neg h4]
  by_cases h5 : k.val - 128 - 128 - 128 - 128 - 128 < 128
  · rw [dif_pos h5]
    exact group ![s0, s1, s2, s3, s4, s5, s6, s7] _ (fun x => ⟨128 + x.val, by omega⟩) i k _ 5 _ (Fin.ext (by show 5 = k.val / 128; omega)) (Fin.ext (by show 640 + (k.val - 128 - 128 - 128 - 128 - 128) = k.val; omega))
  rw [dif_neg h5]
  by_cases h6 : k.val - 128 - 128 - 128 - 128 - 128 - 128 < 128
  · rw [dif_pos h6]
    exact group ![s0, s1, s2, s3, s4, s5, s6, s7] _ (fun x => ⟨128 + x.val, by omega⟩) i k _ 6 _ (Fin.ext (by show 6 = k.val / 128; omega)) (Fin.ext (by show 768 + (k.val - 128 - 128 - 128 - 128 - 128 - 128) = k.val; omega))
  rw [dif_neg h6]
  exact group ![s0, s1, s2, s3, s4, s5, s6, s7] _ (fun x => ⟨128 + x.val, by omega⟩) i k _ 7 _ (Fin.ext (by show 7 = k.val / 128; omega)) (Fin.ext (by show 896 + (k.val - 128 - 128 - 128 - 128 - 128 - 128 - 128) = k.val; omega))

theorem chunk2 (i : Fin 128) (k : Fin 1024) :
    k0_pay30 (F := Ideal) V (k0_pay28 V s0) (k0_pay29 V s1) s2 s3 s4 s5 s6 s7 bias (ix2 i k)
      = (∑ j : Fin 128, (![s0, s1, s2, s3, s4, s5, s6, s7] ⟨k.val / 128, by omega⟩) (ix3 0 i j)
            * V (ix2 ⟨256 + j.val, by omega⟩ k)) + bias (ix2 i k) := by
  pointwise [k0_pay28, k0_pay29, k0_pay30]
  congr 1
  by_cases h0 : k.val < 128
  · rw [dif_pos h0]
    exact group ![s0, s1, s2, s3, s4, s5, s6, s7] _ (fun x => ⟨256 + x.val, by omega⟩) i k _ 0 _ (Fin.ext (by show 0 = k.val / 128; omega)) rfl
  rw [dif_neg h0]
  by_cases h1 : k.val - 128 < 128
  · rw [dif_pos h1]
    exact group ![s0, s1, s2, s3, s4, s5, s6, s7] _ (fun x => ⟨256 + x.val, by omega⟩) i k _ 1 _ (Fin.ext (by show 1 = k.val / 128; omega)) (Fin.ext (by show 128 + (k.val - 128) = k.val; omega))
  rw [dif_neg h1]
  by_cases h2 : k.val - 128 - 128 < 128
  · rw [dif_pos h2]
    exact group ![s0, s1, s2, s3, s4, s5, s6, s7] _ (fun x => ⟨256 + x.val, by omega⟩) i k _ 2 _ (Fin.ext (by show 2 = k.val / 128; omega)) (Fin.ext (by show 256 + (k.val - 128 - 128) = k.val; omega))
  rw [dif_neg h2]
  by_cases h3 : k.val - 128 - 128 - 128 < 128
  · rw [dif_pos h3]
    exact group ![s0, s1, s2, s3, s4, s5, s6, s7] _ (fun x => ⟨256 + x.val, by omega⟩) i k _ 3 _ (Fin.ext (by show 3 = k.val / 128; omega)) (Fin.ext (by show 384 + (k.val - 128 - 128 - 128) = k.val; omega))
  rw [dif_neg h3]
  by_cases h4 : k.val - 128 - 128 - 128 - 128 < 128
  · rw [dif_pos h4]
    exact group ![s0, s1, s2, s3, s4, s5, s6, s7] _ (fun x => ⟨256 + x.val, by omega⟩) i k _ 4 _ (Fin.ext (by show 4 = k.val / 128; omega)) (Fin.ext (by show 512 + (k.val - 128 - 128 - 128 - 128) = k.val; omega))
  rw [dif_neg h4]
  by_cases h5 : k.val - 128 - 128 - 128 - 128 - 128 < 128
  · rw [dif_pos h5]
    exact group ![s0, s1, s2, s3, s4, s5, s6, s7] _ (fun x => ⟨256 + x.val, by omega⟩) i k _ 5 _ (Fin.ext (by show 5 = k.val / 128; omega)) (Fin.ext (by show 640 + (k.val - 128 - 128 - 128 - 128 - 128) = k.val; omega))
  rw [dif_neg h5]
  by_cases h6 : k.val - 128 - 128 - 128 - 128 - 128 - 128 < 128
  · rw [dif_pos h6]
    exact group ![s0, s1, s2, s3, s4, s5, s6, s7] _ (fun x => ⟨256 + x.val, by omega⟩) i k _ 6 _ (Fin.ext (by show 6 = k.val / 128; omega)) (Fin.ext (by show 768 + (k.val - 128 - 128 - 128 - 128 - 128 - 128) = k.val; omega))
  rw [dif_neg h6]
  exact group ![s0, s1, s2, s3, s4, s5, s6, s7] _ (fun x => ⟨256 + x.val, by omega⟩) i k _ 7 _ (Fin.ext (by show 7 = k.val / 128; omega)) (Fin.ext (by show 896 + (k.val - 128 - 128 - 128 - 128 - 128 - 128 - 128) = k.val; omega))

theorem chunk3 (i : Fin 128) (k : Fin 1024) :
    k0_pay33 (F := Ideal) V (k0_pay31 s0) (k0_pay32 V) (constant S128x128 .f32 0x00000000#32) s1 s2 s3 s4 s5 s6 s7 (ix2 i k)
      = (∑ j : Fin 128, (![s0, s1, s2, s3, s4, s5, s6, s7] ⟨k.val / 128, by omega⟩) (ix3 0 i j)
            * V (ix2 ⟨384 + j.val, by omega⟩ k)) := by
  pointwise [k0_pay31, k0_pay32, k0_pay33]
  by_cases h0 : k.val < 128
  · rw [dif_pos h0]
    exact group ![s0, s1, s2, s3, s4, s5, s6, s7] _ (fun x => ⟨384 + x.val, by omega⟩) i k _ 0 _ (Fin.ext (by show 0 = k.val / 128; omega)) rfl
  rw [dif_neg h0]
  by_cases h1 : k.val - 128 < 128
  · rw [dif_pos h1]
    exact group ![s0, s1, s2, s3, s4, s5, s6, s7] _ (fun x => ⟨384 + x.val, by omega⟩) i k _ 1 _ (Fin.ext (by show 1 = k.val / 128; omega)) (Fin.ext (by show 128 + (k.val - 128) = k.val; omega))
  rw [dif_neg h1]
  by_cases h2 : k.val - 128 - 128 < 128
  · rw [dif_pos h2]
    exact group ![s0, s1, s2, s3, s4, s5, s6, s7] _ (fun x => ⟨384 + x.val, by omega⟩) i k _ 2 _ (Fin.ext (by show 2 = k.val / 128; omega)) (Fin.ext (by show 256 + (k.val - 128 - 128) = k.val; omega))
  rw [dif_neg h2]
  by_cases h3 : k.val - 128 - 128 - 128 < 128
  · rw [dif_pos h3]
    exact group ![s0, s1, s2, s3, s4, s5, s6, s7] _ (fun x => ⟨384 + x.val, by omega⟩) i k _ 3 _ (Fin.ext (by show 3 = k.val / 128; omega)) (Fin.ext (by show 384 + (k.val - 128 - 128 - 128) = k.val; omega))
  rw [dif_neg h3]
  by_cases h4 : k.val - 128 - 128 - 128 - 128 < 128
  · rw [dif_pos h4]
    exact group ![s0, s1, s2, s3, s4, s5, s6, s7] _ (fun x => ⟨384 + x.val, by omega⟩) i k _ 4 _ (Fin.ext (by show 4 = k.val / 128; omega)) (Fin.ext (by show 512 + (k.val - 128 - 128 - 128 - 128) = k.val; omega))
  rw [dif_neg h4]
  by_cases h5 : k.val - 128 - 128 - 128 - 128 - 128 < 128
  · rw [dif_pos h5]
    exact group ![s0, s1, s2, s3, s4, s5, s6, s7] _ (fun x => ⟨384 + x.val, by omega⟩) i k _ 5 _ (Fin.ext (by show 5 = k.val / 128; omega)) (Fin.ext (by show 640 + (k.val - 128 - 128 - 128 - 128 - 128) = k.val; omega))
  rw [dif_neg h5]
  by_cases h6 : k.val - 128 - 128 - 128 - 128 - 128 - 128 < 128
  · rw [dif_pos h6]
    exact group ![s0, s1, s2, s3, s4, s5, s6, s7] _ (fun x => ⟨384 + x.val, by omega⟩) i k _ 6 _ (Fin.ext (by show 6 = k.val / 128; omega)) (Fin.ext (by show 768 + (k.val - 128 - 128 - 128 - 128 - 128 - 128) = k.val; omega))
  rw [dif_neg h6]
  exact group ![s0, s1, s2, s3, s4, s5, s6, s7] _ (fun x => ⟨384 + x.val, by omega⟩) i k _ 7 _ (Fin.ext (by show 7 = k.val / 128; omega)) (Fin.ext (by show 896 + (k.val - 128 - 128 - 128 - 128 - 128 - 128 - 128) = k.val; omega))

/-- A row of four chunks laid one after the other, by the chunk that holds it. -/
theorem quarter (f0 f1 f2 f3 : Fin 128 → EReal) (r : Fin 512) :
    (if h : r.val < 128 then f0 ⟨r.val, h⟩ else if h : r.val - 128 < 128 then f1 ⟨r.val - 128, h⟩
      else if h : r.val - 128 - 128 < 128 then f2 ⟨r.val - 128 - 128, h⟩ else f3 ⟨r.val - 128 - 128 - 128, by omega⟩)
      = if r.val < 128 then f0 ⟨r.val % 128, by omega⟩ else if r.val < 256 then f1 ⟨r.val % 128, by omega⟩
        else if r.val < 384 then f2 ⟨r.val % 128, by omega⟩ else f3 ⟨r.val % 128, by omega⟩ := by
  by_cases h0 : r.val < 128
  · rw [dif_pos h0, if_pos h0]
    exact congrArg f0 (Fin.ext (by show r.val = r.val % 128; omega))
  rw [dif_neg h0, if_neg h0]
  by_cases h1 : r.val - 128 < 128
  · rw [dif_pos h1, if_pos (by omega)]
    exact congrArg f1 (Fin.ext (by show r.val - 128 = r.val % 128; omega))
  rw [dif_neg h1, if_neg (by omega)]
  by_cases h2 : r.val - 128 - 128 < 128
  · rw [dif_pos h2, if_pos (by omega)]
    exact congrArg f2 (Fin.ext (by show r.val - 128 - 128 = r.val % 128; omega))
  rw [dif_neg h2, if_neg (by omega)]
  exact congrArg f3 (Fin.ext (by show r.val - 128 - 128 - 128 = r.val % 128; omega))

/-- The body's last value: the block's rows plus the two branches through the output weight. -/
theorem pay1_apply (x : FVec Ideal S512x1024 .f32) (h : FVec Ideal S512x1024 .bf16) (ya : FVec Ideal S512x1024 .f32)
    (m0 m1 m2 m3 : FVec Ideal S128x1024 .f32) (wu wz wo0 wo1 : Vec Ideal S1024x1024 .bf16) (r : Fin 512) (c : Fin 1024) :
    k0_pay1 (F := Ideal) x h ya m0 m1 m2 m3 bias wu wz wo0 wo1 (ix2 r c)
      = x (ix2 r c) + ∑ k : Fin 1024, ya (ix2 r k) * wo0 (ix2 k c)
        + ∑ k : Fin 1024, ((∑ d : Fin 1024, h (ix2 r d) * wu (ix2 d k))
            * (if r.val < 128 then m0 (ix2 ⟨r.val % 128, by omega⟩ k)
               else if r.val < 256 then m1 (ix2 ⟨r.val % 128, by omega⟩ k)
               else if r.val < 384 then m2 (ix2 ⟨r.val % 128, by omega⟩ k)
               else m3 (ix2 ⟨r.val % 128, by omega⟩ k) + bias (ix2 ⟨r.val % 128, by omega⟩ k))
            * silu (∑ d : Fin 1024, h (ix2 r d) * wz (ix2 d k))) * wo1 (ix2 k c) := by
  pointwise [k0_pay1]
  refine congrArg₂ (fun p q : EReal => p + q) rfl (Finset.sum_congr rfl fun k _ => ?_)
  rw [zero_sub]
  refine congrArg₂ (fun p q : EReal => p * q) (congrArg₂ (fun p q : EReal => p * q)
    (congrArg₂ (fun p q : EReal => p * q) rfl ?_) rfl) rfl
  exact quarter (fun q => m0 (ix2 q k)) (fun q => m1 (ix2 q k)) (fun q => m2 (ix2 q k))
    (fun q => m3 (ix2 q k) + bias (ix2 q k)) r

end Cert.Even

end
-- ==== Proof.Even.Blk3.lean ====
/- The even layer's kernel body at a grid point is the layer at the point's 512 token rows. -/
module

public import proofs.«01_k».proof.Proof.Even.Blk2
public import proofs.«01_k».proof.Proof.Gen.KernelIdeal.Frame

@[expose] public section

set_option maxRecDepth 16384

noncomputable section

namespace Cert.Even

open Cert.KernelIdeal Cert.KernelIdeal.Gen Idealize.ShloMosaic

section Stages

variable (I : Ins) (B : ℕ) (v30 : FVec Ideal S528x1024 .f32) (v33 v34 : FVec Ideal S528x1 .f32) (g : Vec Ideal S1x1024 .f32)

/-- The normalized row `e` of the widened block is the normalized token row `n`. -/
def Row (e : Fin 528) (n : ℕ) : Prop := ∀ k : Fin 1024, k0_pay6 (F := Ideal) v30 v33 v34 g (ix2 e k) = nrm (I.X n) I.g k

/-- The loaded weight block is column block `o` of the input weight. -/
def Blk (w : Vec Ideal S1024x1024 .bf16) (o : Fin 7) : Prop := ∀ d k : Fin 1024, w (ix2 d k) = wcol I.W o k d

variable {I v30 v33 v34 g}

theorem gate_row {e : Fin 528} {n : ℕ} (h : Row I v30 v33 v34 g e n) {wa wc : Vec Ideal S1024x1024 .bf16}
    (ha : Blk I wa 0) (hc : Blk I wc 2) (k : Fin 1024) :
    k0_pay8 (F := Ideal) v30 v33 v34 g wa wc (ix2 e k) = gate I n k := by
  have e (w : Vec Ideal S1024x1024 .bf16) (o : Fin 7) (hw : Blk I w o) :
      ∑ d : Fin 1024, k0_pay6 (F := Ideal) v30 v33 v34 g (ix2 e d) * w (ix2 d k) = P I o n k := by
    unfold P prj
    exact Finset.sum_congr rfl fun d _ => by rw [h d, hw d k]
  rw [pay8_apply, e wa 0 ha, e wc 2 hc]
  rfl

variable (hB : B % 512 = 0) (h : ∀ r : Fin 512, Row I v30 v33 v34 g ⟨8 + r.val, by omega⟩ (B + r.val))
include h

theorem mid (r : Fin 512) (k : Fin 1024) : k0_pay7 (F := Ideal) v30 v33 v34 g (ix2 r k) = nrm (I.X (B + r.val)) I.g k := by
  rw [pay7_apply]
  exact h r k

/-- Any projection of the block's own rows. -/
theorem prj_mid (w : Vec Ideal S1024x1024 .bf16) (o : Fin 7) (hw : Blk I w o) (r : Fin 512) (k : Fin 1024) :
    ∑ d : Fin 1024, k0_pay7 (F := Ideal) v30 v33 v34 g (ix2 r d) * w (ix2 d k) = P I o (B + r.val) k := by
  unfold P prj
  exact Finset.sum_congr rfl fun d _ => by rw [mid B h r d, hw d k]

/-- The layer norm's rows. -/
theorem vn_mid (w : Vec Ideal S1024x1024 .bf16) (hw : Blk I w 5) (a b : Vec Ideal S1x1024 .f32)
    (ha : ∀ k, a (ix2 0 k) = I.lg k) (hb : ∀ k, b (ix2 0 k) = I.lb k) (r : Fin 512) (k : Fin 1024) :
    k0_pay17 (F := Ideal) (k0_pay15 (k0_pay7 v30 v33 v34 g) w) (k0_pay16 (k0_pay7 v30 v33 v34 g) w) a b (ix2 r k)
      = vn I (B + r.val) k := by
  have e (c : Fin 1024) : k0_pay15 (F := Ideal) (k0_pay7 v30 v33 v34 g) w (ix2 r c) = cen (P I 5 (B + r.val)) c := by
    rw [pay15_apply]
    exact congrArg (fun f => cen f c) (funext fun c' => prj_mid B h w 5 hw r c')
  rw [pay17_apply, pay16_apply, e k, ha, hb]
  simp only [e]
  rfl

include hB in
/-- The convolution's branch. -/
theorem brA_mid (q1 q2 : BitVec 1) (h1 : q1 = 1#1 ↔ B % 8192 = 0) (h2 : q2 = 1#1 ↔ (B + 512) % 8192 = 0)
    (hp : B % 8192 ≠ 0 → Row I v30 v33 v34 g 7 (B - 1)) (hn : (B + 512) % 8192 ≠ 0 → Row I v30 v33 v34 g 520 (B + 512))
    (w0 w1 w2 w3 : Vec Ideal S1024x1024 .bf16) (hw0 : Blk I w0 0) (hw1 : Blk I w1 1) (hw2 : Blk I w2 2) (hw3 : Blk I w3 3)
    (c0 c1 c2 : Vec Ideal S1x1024 .f32) (hc0 : ∀ k, c0 (ix2 0 k) = I.cw 0 k) (hc1 : ∀ k, c1 (ix2 0 k) = I.cw 1 k)
    (hc2 : ∀ k, c2 (ix2 0 k) = I.cw 2 k) (r : Fin 512) (k : Fin 1024) :
    k0_pay14 (F := Ideal) (k0_pay9 v30 v33 v34 g w0 w2) (k0_pay10 v30 v33 v34 g w1) (k0_pay11 v30 v33 v34 g w3)
        (k0_pay12 q2 v30 v33 v34 g w0 w2) (iota .tc S512x1 32 [0] iota_S512x1_d0_w32) (k0_pay13 q1 v30 v33 v34 g w0 w2)
        c0 c1 c2 (ix2 r k)
      = brA I (B + r.val) k := by
  have eg (r : Fin 512) : k0_pay9 (F := Ideal) v30 v33 v34 g w0 w2 (ix2 r k) = gate I (B + r.val) k := by
    rw [pay9_apply]
    exact gate_row (h r) hw0 hw2 k
  have ep : k0_pay13 (F := Ideal) q1 v30 v33 v34 g w0 w2 (ix2 r k) = prev I (B + r.val) k := by
    rw [pay13_apply, prev]
    by_cases hr : r.val = 0
    · rw [if_pos hr]
      by_cases hb : B % 8192 = 0
      · rw [if_pos (h1.2 hb), if_pos (by omega)]
      · rw [if_neg (fun e => hb (h1.1 e)), if_neg (by omega), gate_row (hp hb) hw0 hw2 k]
        exact congrArg (fun n => gate I n k) (by omega)
    · rw [if_neg hr, if_neg (by omega)]
      have hr' := h ⟨r.val - 1, by omega⟩
      rw [show (⟨8 + (⟨r.val - 1, by omega⟩ : Fin 512).val, by omega⟩ : Fin 528) = ⟨7 + r.val, by omega⟩ from
        Fin.ext (by show 8 + (r.val - 1) = 7 + r.val; omega)] at hr'
      rw [gate_row hr' hw0 hw2 k]
      exact congrArg (fun n => gate I n k) (by show B + (r.val - 1) = B + r.val - 1; omega)
  have en : (if h' : r.val + 1 < 512 then k0_pay9 (F := Ideal) v30 v33 v34 g w0 w2 (ix2 ⟨r.val + 1, h'⟩ k)
      else k0_pay12 (F := Ideal) q2 v30 v33 v34 g w0 w2 (ix2 0 k)) = next I (B + r.val) k := by
    rw [next]
    by_cases hr : r.val + 1 < 512
    · rw [dif_pos hr, eg, if_neg (by omega)]
      rfl
    · rw [dif_neg hr, pay12_apply]
      by_cases hb : (B + 512) % 8192 = 0
      · rw [if_pos (h2.2 hb), if_pos (by omega)]
      · rw [if_neg (fun e => hb (h2.1 e)), if_neg (by omega), gate_row (hn hb) hw0 hw2 k]
        exact congrArg (fun n => gate I n k) (by omega)
  rw [pay14_apply, en, ep, eg, hc0, hc1, hc2, pay10_apply, pay11_apply, prj_mid B h w1 1 hw1, prj_mid B h w3 3 hw3]
  rfl

end Stages

/-- The two tests of a point's place in its sequence, as the program computes them in words. -/
abbrev atStart (n : ℕ) : BitVec 1 := Scalar.cmpi .eq (Scalar.select (Scalar.andi (Scalar.xori (Scalar.cmpi .slt (Scalar.remsi (Scalar.muli (BitVec.ofNat 32 n) 512#32) (Scalar.select (Scalar.cmpi .eq 8192#32 0#32) 1#32 8192#32)) 0#32) (Scalar.cmpi .slt (Scalar.select (Scalar.cmpi .eq 8192#32 0#32) 1#32 8192#32) 0#32)) (Scalar.cmpi .ne (Scalar.remsi (Scalar.muli (BitVec.ofNat 32 n) 512#32) (Scalar.select (Scalar.cmpi .eq 8192#32 0#32) 1#32 8192#32)) 0#32)) (Scalar.addi (Scalar.remsi (Scalar.muli (BitVec.ofNat 32 n) 512#32) (Scalar.select (Scalar.cmpi .eq 8192#32 0#32) 1#32 8192#32)) (Scalar.select (Scalar.cmpi .eq 8192#32 0#32) 1#32 8192#32)) (Scalar.remsi (Scalar.muli (BitVec.ofNat 32 n) 512#32) (Scalar.select (Scalar.cmpi .eq 8192#32 0#32) 1#32 8192#32))) 0#32
abbrev atEnd (n : ℕ) : BitVec 1 := Scalar.cmpi .eq (Scalar.select (Scalar.andi (Scalar.xori (Scalar.cmpi .slt (Scalar.remsi (Scalar.addi (Scalar.muli (BitVec.ofNat 32 n) 512#32) 512#32) (Scalar.select (Scalar.cmpi .eq 8192#32 0#32) 1#32 8192#32)) 0#32) (Scalar.cmpi .slt (Scalar.select (Scalar.cmpi .eq 8192#32 0#32) 1#32 8192#32) 0#32)) (Scalar.cmpi .ne (Scalar.remsi (Scalar.addi (Scalar.muli (BitVec.ofNat 32 n) 512#32) 512#32) (Scalar.select (Scalar.cmpi .eq 8192#32 0#32) 1#32 8192#32)) 0#32)) (Scalar.addi (Scalar.remsi (Scalar.addi (Scalar.muli (BitVec.ofNat 32 n) 512#32) 512#32) (Scalar.select (Scalar.cmpi .eq 8192#32 0#32) 1#32 8192#32)) (Scalar.select (Scalar.cmpi .eq 8192#32 0#32) 1#32 8192#32)) (Scalar.remsi (Scalar.addi (Scalar.muli (BitVec.ofNat 32 n) 512#32) 512#32) (Scalar.select (Scalar.cmpi .eq 8192#32 0#32) 1#32 8192#32))) 0#32

theorem atStart_iff (n : ℕ) (hn : n < 32) : atStart n = 1#1 ↔ 512 * n % 8192 = 0 :=
  (by decide +kernel : ∀ n : Fin 32, atStart n.val = 1#1 ↔ 512 * n.val % 8192 = 0) ⟨n, hn⟩

theorem atEnd_iff (n : ℕ) (hn : n < 32) : atEnd n = 1#1 ↔ (512 * n + 512) % 8192 = 0 :=
  (by decide +kernel : ∀ n : Fin 32, atEnd n.val = 1#1 ↔ (512 * n.val + 512) % 8192 = 0) ⟨n, hn⟩

/-- What a point's blocks hold of the layer's arrays. -/
structure Holds (I : Ins) (n : ℕ) (x0 : Vec Ideal S512x1024 .f32) (x1 x2 : Vec Ideal S8x1024 .f32) (x3 : Vec Ideal S1x1024 .f32)
    (x4 : Vec Ideal S1024x7168 .bf16) (x5 : Vec Ideal S3x1024 .f32) (x6 x7 : Vec Ideal S1x1024 .f32)
    (x8 : Vec Ideal S8x128x128 .bf16) (x9 : Vec Ideal S128x1024 .f32) (x10 : Vec Ideal S2048x1024 .bf16) : Prop where
  own : ∀ (r : Fin 512) (k : Fin 1024), x0 (ix2 r k) = I.X (512 * n + r.val) k
  before : 512 * n % 8192 ≠ 0 → ∀ k : Fin 1024, x1 (ix2 7 k) = I.X (512 * n - 1) k
  after : (512 * n + 512) % 8192 ≠ 0 → ∀ k : Fin 1024, x2 (ix2 0 k) = I.X (512 * n + 512) k
  gain : ∀ k : Fin 1024, x3 (ix2 0 k) = I.g k
  win : ∀ (d : Fin 1024) (k : Fin 7168), x4 (ix2 d k) = I.W d k
  conv : ∀ (j : Fin 3) (k : Fin 1024), x5 (ix2 j k) = I.cw j k
  lg : ∀ k : Fin 1024, x6 (ix2 0 k) = I.lg k
  lb : ∀ k : Fin 1024, x7 (ix2 0 k) = I.lb k
  sw : ∀ (a : Fin 8) (i j : Fin 128), x8 (ix3 a i j) = I.sw a i j
  sb : ∀ (i : Fin 128) (k : Fin 1024), x9 (ix2 i k) = I.sb ⟨k.val / 128, by omega⟩ i
  wout : ∀ (k : Fin 2048) (c : Fin 1024), x10 (ix2 k c) = I.Wo k c

section Block

variable {I : Ins} {i : grid0.Coords} {x0 : Vec Ideal S512x1024 .f32} {x1 x2 : Vec Ideal S8x1024 .f32} {x3 : Vec Ideal S1x1024 .f32}
  {x4 : Vec Ideal S1024x7168 .bf16} {x5 : Vec Ideal S3x1024 .f32} {x6 x7 : Vec Ideal S1x1024 .f32}
  {x8 : Vec Ideal S8x128x128 .bf16} {x9 : Vec Ideal S128x1024 .f32} {x10 : Vec Ideal S2048x1024 .bf16}
  (H : Holds I (i 0).val x0 x1 x2 x3 x4 x5 x6 x7 x8 x9 x10)
include H

/-- A widened row that holds a token's row is normalized as the token's. -/
theorem row_of (e : Fin 528) (n : ℕ) (h : ∀ k : Fin 1024, k0_pay3 (F := Ideal) (View.ld x0 r0_0) (View.ld x1 r0_1) (View.ld x2 r0_1) (ix2 e k) = I.X n k) :
    Row I (k0_pay3 (View.ld x0 r0_0) (View.ld x1 r0_1) (View.ld x2 r0_1)) (k0_pay4 (View.ld x0 r0_0) (View.ld x1 r0_1) (View.ld x2 r0_1))
      k0_pay5 (View.ld x3 r0_2) e n := by
  intro k
  have hg : View.ld x3 r0_2 (ix2 (0 : Fin 1) k) = I.g k := by
    pointwise
    exact H.gain k
  rw [pay6_apply, pay4_apply, pay5_apply, hg]
  simp only [h]
  rfl

theorem rows_own (r : Fin 512) :
    Row I (k0_pay3 (View.ld x0 r0_0) (View.ld x1 r0_1) (View.ld x2 r0_1)) (k0_pay4 (View.ld x0 r0_0) (View.ld x1 r0_1) (View.ld x2 r0_1))
      k0_pay5 (View.ld x3 r0_2) ⟨8 + r.val, by omega⟩ (512 * (i 0).val + r.val) :=
  row_of H _ _ fun k => by
    rw [pay3_apply, dif_neg (by show ¬ 8 + r.val < 8; omega), dif_pos (by show 8 + r.val - 8 < 512; omega)]
    pointwise
    rw [← H.own r k]

theorem row_before (h : 512 * (i 0).val % 8192 ≠ 0) :
    Row I (k0_pay3 (View.ld x0 r0_0) (View.ld x1 r0_1) (View.ld x2 r0_1)) (k0_pay4 (View.ld x0 r0_0) (View.ld x1 r0_1) (View.ld x2 r0_1))
      k0_pay5 (View.ld x3 r0_2) 7 (512 * (i 0).val - 1) :=
  row_of H _ _ fun k => by
    rw [pay3_apply, dif_pos (by show 7 < 8; omega)]
    pointwise
    exact H.before h k

theorem row_after (h : (512 * (i 0).val + 512) % 8192 ≠ 0) :
    Row I (k0_pay3 (View.ld x0 r0_0) (View.ld x1 r0_1) (View.ld x2 r0_1)) (k0_pay4 (View.ld x0 r0_0) (View.ld x1 r0_1) (View.ld x2 r0_1))
      k0_pay5 (View.ld x3 r0_2) 520 (512 * (i 0).val + 512) :=
  row_of H _ _ fun k => by
    rw [pay3_apply, dif_neg (by show ¬ 520 < 8; omega), dif_neg (by show ¬ 520 - 8 < 512; omega)]
    pointwise
    exact H.after h k

theorem blk0 : Blk I (View.ld x4 r0_3) 0 := fun d k => by
  pointwise
  exact (H.win d _).trans (congrArg (I.W d) (Fin.ext (by show k.val = 1024 * 0 + k.val; omega)))
theorem blk1 : Blk I (View.ld x4 r0_5) 1 := fun d k => by
  pointwise
  exact H.win d _
theorem blk2 : Blk I (View.ld x4 r0_4) 2 := fun d k => by
  pointwise
  exact H.win d _
theorem blk3 : Blk I (View.ld x4 r0_6) 3 := fun d k => by
  pointwise
  exact H.win d _
theorem blk4 : Blk I (View.ld x4 r0_20) 4 := fun d k => by
  pointwise
  exact H.win d _
theorem blk5 : Blk I (View.ld x4 r0_10) 5 := fun d k => by
  pointwise
  exact H.win d _
theorem blk6 : Blk I (View.ld x4 r0_21) 6 := fun d k => by
  pointwise
  exact H.win d _

/-- A group's matrix and the biases, as the chunks' lemmas state them, are the layer's mixing. -/
theorem mix_of (V : FVec Ideal S512x1024 .bf16) (hV : ∀ (r : Fin 512) (k : Fin 1024), V (ix2 r k) = vn I (512 * (i 0).val + r.val) k)
    (q : ℕ) (r : Fin 512) (hq : q = r.val / 128) (k : Fin 1024) (row : Fin 128 → Fin 512) (hrow : ∀ j : Fin 128, (row j).val = 128 * q + j.val) :
    (∑ j : Fin 128, (![View.ld x8 r0_11, View.ld x8 r0_12, View.ld x8 r0_13, View.ld x8 r0_14, View.ld x8 r0_15, View.ld x8 r0_16,
          View.ld x8 r0_17, View.ld x8 r0_18] ⟨k.val / 128, by omega⟩) (ix3 0 ⟨r.val % 128, by omega⟩ j)
        * V (ix2 (row j) k)) + View.ld x9 r0_19 (ix2 ⟨r.val % 128, by omega⟩ k)
      = mix I (512 * (i 0).val + r.val) k := by
  have e8 (a : Fin 8) (p j : Fin 128) : (![View.ld x8 r0_11, View.ld x8 r0_12, View.ld x8 r0_13, View.ld x8 r0_14, View.ld x8 r0_15,
      View.ld x8 r0_16, View.ld x8 r0_17, View.ld x8 r0_18] a) (ix3 0 p j) = I.sw a p j := by
    rw [← H.sw a p j]
    fin_cases a
    · show View.ld x8 r0_11 (ix3 0 p j) = _
      pointwise
    · show View.ld x8 r0_12 (ix3 0 p j) = _
      pointwise
    · show View.ld x8 r0_13 (ix3 0 p j) = _
      pointwise
    · show View.ld x8 r0_14 (ix3 0 p j) = _
      pointwise
    · show View.ld x8 r0_15 (ix3 0 p j) = _
      pointwise
    · show View.ld x8 r0_16 (ix3 0 p j) = _
      pointwise
    · show View.ld x8 r0_17 (ix3 0 p j) = _
      pointwise
    · show View.ld x8 r0_18 (ix3 0 p j) = _
      pointwise
  have e9 (p : Fin 128) : View.ld x9 r0_19 (ix2 p k) = I.sb ⟨k.val / 128, by omega⟩ p := by
    pointwise
    exact H.sb p k
  have en (h : r.val % 128 < 128) (h' : (512 * (i 0).val + r.val) % 128 < 128) :
      (⟨r.val % 128, h⟩ : Fin 128) = ⟨(512 * (i 0).val + r.val) % 128, h'⟩ :=
    Fin.ext (by show r.val % 128 = (512 * (i 0).val + r.val) % 128; omega)
  rw [e9, mix, en (by omega) (by omega)]
  refine congrArg₂ (fun p q : EReal => p + q) (Finset.sum_congr rfl fun j _ => ?_) rfl
  rw [e8, hV, hrow]
  exact congrArg (fun n => _ * vn I n k) (by omega)

/-- THE BODY AT A POINT: what the point writes back is the layer at its rows. -/
theorem out_block (r : Fin 512) (c : Fin 1024) :
    out0_11 (F := Ideal) i x0 x1 x2 x3 x4 x5 x6 x7 x8 x9 x10 (ix2 r c) = out I (512 * (i 0).val + r.val) c := by
  have hi : (i 0).val < 32 := (i 0).isLt
  have hlg (k : Fin 1024) : View.ld x6 r0_2 (ix2 (0 : Fin 1) k) = I.lg k := by
    pointwise
    exact H.lg k
  have hlb (k : Fin 1024) : View.ld x7 r0_2 (ix2 (0 : Fin 1) k) = I.lb k := by
    pointwise
    exact H.lb k
  have hc0 (k : Fin 1024) : View.ld x5 r0_7 (ix2 (0 : Fin 1) k) = I.cw 0 k := by
    pointwise
    exact H.conv 0 k
  have hc1 (k : Fin 1024) : View.ld x5 r0_8 (ix2 (0 : Fin 1) k) = I.cw 1 k := by
    pointwise
    exact H.conv 1 k
  have hc2 (k : Fin 1024) : View.ld x5 r0_9 (ix2 (0 : Fin 1) k) = I.cw 2 k := by
    pointwise
    exact H.conv 2 k
  have ho (k : Fin 1024) : View.ld x10 r0_22 (ix2 k c) = I.Wo ⟨k.val, by omega⟩ c := by
    pointwise
    exact H.wout _ c
  have ho' (k : Fin 1024) : View.ld x10 r0_23 (ix2 k c) = I.Wo ⟨1024 + k.val, by omega⟩ c := by
    pointwise
    exact H.wout _ c
  have hx : k0_pay2 (F := Ideal) (View.ld x0 r0_0) (ix2 r c) = I.X (512 * (i 0).val + r.val) c := by
    pointwise [k0_pay2]
    exact H.own r c
  have hV := vn_mid (512 * (i 0).val) (rows_own H) _ (blk5 H) _ _ hlg hlb
  unfold out0_11
  rw [View.canon_unit_zero (h := by funext a; fin_cases a <;> rfl)]
  unfold k0_pay40 k0_pay39 k0_pay38 k0_pay37 k0_pay36 k0_pay35 k0_pay34
  rw [pay1_apply, hx, out]
  refine congrArg₂ (fun p q : EReal => p + q) (congrArg₂ (fun p q : EReal => p + q) rfl
    (Finset.sum_congr rfl fun k _ => ?_)) (Finset.sum_congr rfl fun k _ => ?_)
  · rw [ho k]
    refine congrArg (fun p : EReal => p * _) ?_
    exact brA_mid (512 * (i 0).val) (by omega) (rows_own H) (atStart (i 0).val) (atEnd (i 0).val) (atStart_iff _ hi) (atEnd_iff _ hi)
      (row_before H) (row_after H) _ _ _ _ (blk0 H) (blk1 H) (blk2 H) (blk3 H) _ _ _ hc0 hc1 hc2 r k
  · rw [ho' k, prj_mid _ (rows_own H) _ 4 (blk4 H), prj_mid _ (rows_own H) _ 6 (blk6 H), brB]
    refine congrArg (fun p : EReal => P I 4 _ k * p * silu (P I 6 _ k) * _) ?_
    by_cases h0 : r.val < 128
    · rw [if_pos h0, chunk0]
      exact mix_of H _ hV 0 r (by omega) k _ (fun j => by show j.val = 128 * 0 + j.val; omega)
    rw [if_neg h0]
    by_cases h1 : r.val < 256
    · rw [if_pos h1, chunk1]
      exact mix_of H _ hV 1 r (by omega) k _ (fun j => rfl)
    rw [if_neg h1]
    by_cases h2 : r.val < 384
    · rw [if_pos h2, chunk2]
      exact mix_of H _ hV 2 r (by omega) k _ (fun j => rfl)
    rw [if_neg h2, chunk3]
    exact mix_of H _ hV 3 r (by omega) k _ (fun j => rfl)

end Block

end Cert.Even

end
-- ==== Proof.Even.Arr.lean ====
/- The even layer's kernel run: the arrays its windows read, and the array it leaves, which is the layer's. -/
module

public import proofs.«01_k».proof.Proof.Even.Blk3
public import proofs.«01_k».proof.Proof.Gen.KernelIdeal.Value
public import Idealize.ShloMosaic.Lib.Pipeline.ValueKit.Geometry

@[expose] public section

set_option maxRecDepth 16384

noncomputable section

namespace Cert.Even

open Cert.KernelIdeal Cert.KernelIdeal.Gen Idealize.ShloMosaic Idealize.ShloMosaic.TcCoe Idealize.SL.Sem
open Idealize.ShloMosaic.Pipeline (Dat)

/-- The layer's arrays from the nine arguments. -/
def ins (a0 : FVec Ideal S2x8192x1024 .f32) (a1 : FVec Ideal S1x1024 .f32) (a2 : FVec Ideal S1x1024x7168 .f32)
    (a3 : FVec Ideal S1x3x1024 .f32) (a4 a5 : FVec Ideal S1x1024 .f32) (a6 : FVec Ideal S1x8x128x128 .f32)
    (a7 : FVec Ideal S1x8x128 .f32) (a8 : FVec Ideal S1x2048x1024 .f32) : Ins where
  X n k := a0 (ix3 ⟨n / 8192 % 2, by omega⟩ ⟨n % 8192, by omega⟩ k)
  g k := a1 (ix2 0 k)
  W d k := a2 (ix3 0 d k)
  cw j k := a3 (ix3 0 j k)
  lg k := a4 (ix2 0 k)
  lb k := a5 (ix2 0 k)
  sw a i j := a6 (ix4 0 a i j)
  sb a i := a7 (ix3 0 a i)
  Wo k c := a8 (ix3 0 k c)

variable (m : (ℓ : Loc nD τ sig) → Buf (Elt Ideal) ℓ) (c : Dev nD)

abbrev insOf : Ins := ins (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))

theorem V_x : V m c main_v0 = (shapeCast S16384x1024 (m ((c : Thread nD τ).loc main_arg0)) shapeCasts_S2x8192x1024_S16384x1024 : Vec Ideal S16384x1024 .f32) := by
  dsimp only [V]
  after_results
  rfl

theorem V_g : V m c main_v15 = (shapeCast S1x1024 (shapeCast S1024 (m ((c : Thread nD τ).loc main_arg1)) shapeCasts_S1x1024_S1024) shapeCasts_S1024_S1x1024 : Vec Ideal S1x1024 .f32) := by
  dsimp only [V]
  after_results
  rfl

theorem V_W : V m c main_v13 = (truncf .bf16 (shapeCast S1024x7168 (m ((c : Thread nD τ).loc main_arg2)) shapeCasts_S1x1024x7168_S1024x7168) bitsLt_bf16_f32 : FVec Ideal S1024x7168 .bf16) := by
  dsimp only [V]
  after_results
  rfl

theorem V_cw : V m c main_v3 = (shapeCast S3x1024 (m ((c : Thread nD τ).loc main_arg3)) shapeCasts_S1x3x1024_S3x1024 : Vec Ideal S3x1024 .f32) := by
  dsimp only [V]
  after_results
  rfl

theorem V_lg : V m c main_v16 = (shapeCast S1x1024 (shapeCast S1024 (m ((c : Thread nD τ).loc main_arg4)) shapeCasts_S1x1024_S1024) shapeCasts_S1024_S1x1024 : Vec Ideal S1x1024 .f32) := by
  dsimp only [V]
  after_results
  rfl

theorem V_lb : V m c main_v17 = (shapeCast S1x1024 (shapeCast S1024 (m ((c : Thread nD τ).loc main_arg5)) shapeCasts_S1x1024_S1024) shapeCasts_S1024_S1x1024 : Vec Ideal S1x1024 .f32) := by
  dsimp only [V]
  after_results
  rfl

theorem V_sw : V m c main_v12 = (truncf .bf16 (shapeCast S8x128x128 (m ((c : Thread nD τ).loc main_arg6)) shapeCasts_S1x8x128x128_S8x128x128) bitsLt_bf16_f32 : FVec Ideal S8x128x128 .bf16) := by
  dsimp only [V]
  after_results
  rfl

theorem V_sb : V m c main_v11 = (shapeCast S128x1024 (broadcastInDim S128x8x128 ![0, 1] bcast_S128x8_S128x8x128_0_1
    (transpose S128x8 [1, 0] (shapeCast S8x128 (m ((c : Thread nD τ).loc main_arg7)) shapeCasts_S1x8x128_S8x128) transposes_S8x128_S128x8_1_0))
    shapeCasts_S128x8x128_S128x1024 : Vec Ideal S128x1024 .f32) := by
  dsimp only [V]
  after_results
  rfl

theorem V_Wo : V m c main_v14 = (truncf .bf16 (shapeCast S2048x1024 (m ((c : Thread nD τ).loc main_arg8)) shapeCasts_S1x2048x1024_S2048x1024) bitsLt_bf16_f32 : FVec Ideal S2048x1024 .bf16) := by
  dsimp only [V]
  after_results
  rfl

theorem idx0 : ∀ t : Fin cfg0.N, win0_0.index t = ![(grid0.coords t 0).val, 0] :=
  (by decide +kernel : ∀ t : Fin grid0.N, _)
theorem idx1 : ∀ t : Fin cfg0.N, win0_1.index t = ![64 * (grid0.coords t 0).val - 1, 0] :=
  (by decide +kernel : ∀ t : Fin grid0.N, _)
theorem idx2 : ∀ t : Fin cfg0.N, win0_2.index t = ![min (64 * (grid0.coords t 0).val + 64) 2047, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![0, 0] :=
  (by decide +kernel : ∀ t : Fin grid0.N, _)
theorem idx11 : ∀ t : Fin cfg0.N, win0_11.index t = ![(grid0.coords t 0).val, 0] :=
  (by decide +kernel : ∀ t : Fin grid0.N, _)

theorem x_apply (R : Fin 16384) (k : Fin 1024) : (V m c main_v0 : Vec Ideal S16384x1024 .f32) (ix2 R k) = (insOf m c).X R.val k := by
  have e (a : Vec Ideal S2x8192x1024 .f32) : shapeCast S16384x1024 a shapeCasts_S2x8192x1024_S16384x1024 (ix2 R k)
      = a (ix3 ⟨R.val / 8192 % 2, by omega⟩ ⟨R.val % 8192, by omega⟩ k) := by
    pointwise
    exact congrArg (fun q => a (ix3 q _ k)) (Fin.ext (by show R.val / 8192 = R.val / 8192 % 2; omega))
  rw [V_x]
  exact e _

theorem g_apply (k : Fin 1024) : (V m c main_v15 : Vec Ideal S1x1024 .f32) (ix2 0 k) = (insOf m c).g k := by
  have e (a : Vec Ideal S1x1024 .f32) : shapeCast S1x1024 (shapeCast S1024 a shapeCasts_S1x1024_S1024) shapeCasts_S1024_S1x1024 (ix2 (0 : Fin 1) k)
      = a (ix2 0 k) := by
    pointwise
  rw [V_g]
  exact e _

theorem W_apply (d : Fin 1024) (k : Fin 7168) : (V m c main_v13 : Vec Ideal S1024x7168 .bf16) (ix2 d k) = (insOf m c).W d k := by
  have e (a : Vec Ideal S1x1024x7168 .f32) : (truncf .bf16 (shapeCast S1024x7168 a shapeCasts_S1x1024x7168_S1024x7168) bitsLt_bf16_f32 : FVec Ideal S1024x7168 .bf16) (ix2 d k)
      = a (ix3 0 d k) := by
    pointwise
  rw [V_W]
  exact e _

theorem cw_apply (j : Fin 3) (k : Fin 1024) : (V m c main_v3 : Vec Ideal S3x1024 .f32) (ix2 j k) = (insOf m c).cw j k := by
  have e (a : Vec Ideal S1x3x1024 .f32) : shapeCast S3x1024 a shapeCasts_S1x3x1024_S3x1024 (ix2 j k) = a (ix3 0 j k) := by
    pointwise
  rw [V_cw]
  exact e _

theorem lg_apply (k : Fin 1024) : (V m c main_v16 : Vec Ideal S1x1024 .f32) (ix2 0 k) = (insOf m c).lg k := by
  have e (a : Vec Ideal S1x1024 .f32) : shapeCast S1x1024 (shapeCast S1024 a shapeCasts_S1x1024_S1024) shapeCasts_S1024_S1x1024 (ix2 (0 : Fin 1) k)
      = a (ix2 0 k) := by
    pointwise
  rw [V_lg]
  exact e _

theorem lb_apply (k : Fin 1024) : (V m c main_v17 : Vec Ideal S1x1024 .f32) (ix2 0 k) = (insOf m c).lb k := by
  have e (a : Vec Ideal S1x1024 .f32) : shapeCast S1x1024 (shapeCast S1024 a shapeCasts_S1x1024_S1024) shapeCasts_S1024_S1x1024 (ix2 (0 : Fin 1) k)
      = a (ix2 0 k) := by
    pointwise
  rw [V_lb]
  exact e _

theorem sw_apply (a : Fin 8) (i j : Fin 128) : (V m c main_v12 : Vec Ideal S8x128x128 .bf16) (ix3 a i j) = (insOf m c).sw a i j := by
  have e (w : Vec Ideal S1x8x128x128 .f32) : (truncf .bf16 (shapeCast S8x128x128 w shapeCasts_S1x8x128x128_S8x128x128) bitsLt_bf16_f32 : FVec Ideal S8x128x128 .bf16) (ix3 a i j)
      = w (ix4 0 a i j) := by
    pointwise
  rw [V_sw]
  exact e _

theorem Wo_apply (k : Fin 2048) (d : Fin 1024) : (V m c main_v14 : Vec Ideal S2048x1024 .bf16) (ix2 k d) = (insOf m c).Wo k d := by
  have e (a : Vec Ideal S1x2048x1024 .f32) : (truncf .bf16 (shapeCast S2048x1024 a shapeCasts_S1x2048x1024_S2048x1024) bitsLt_bf16_f32 : FVec Ideal S2048x1024 .bf16) (ix2 k d)
      = a (ix3 0 k d) := by
    pointwise
  rw [V_Wo]
  exact e _

theorem sb_apply (i : Fin 128) (k : Fin 1024) : (V m c main_v11 : Vec Ideal S128x1024 .f32) (ix2 i k) = (insOf m c).sb ⟨k.val / 128, by omega⟩ i := by
  have e (a : Vec Ideal S1x8x128 .f32) : (shapeCast S128x1024 (broadcastInDim S128x8x128 ![0, 1] bcast_S128x8_S128x8x128_0_1
    (transpose S128x8 [1, 0] (shapeCast S8x128 a shapeCasts_S1x8x128_S8x128) transposes_S8x128_S128x8_1_0))
    shapeCasts_S128x8x128_S128x1024 : Vec Ideal S128x1024 .f32) (ix2 i k)
      = a (ix3 0 ⟨k.val / 128, by omega⟩ i) := by
    pointwise
  rw [V_sb]
  exact e _

theorem blk_own (t : Fin cfg0.N) (r : Fin 512) (k : Fin 1024) : (iblk m c 0 t : Vec Ideal S512x1024 .f32) (ix2 r k) = (insOf m c).X (512 * (grid0.coords t 0).val + r.val) k := by
  have ht : (grid0.coords t 0).val < 32 := (grid0.coords t 0).isLt
  blk_simp [iblk]
  rw [show (win0_0.blk t).view.emb (ix2 r k) = ix2 (⟨512 * (grid0.coords t 0).val + r.val, by omega⟩ : Fin 16384) k by blk_ext [idx0]]
  exact x_apply m c _ k

theorem blk_before (t : Fin cfg0.N) (h : 512 * (grid0.coords t 0).val % 8192 ≠ 0) (k : Fin 1024) : (iblk m c 1 t : Vec Ideal S8x1024 .f32) (ix2 7 k) = (insOf m c).X (512 * (grid0.coords t 0).val - 1) k := by
  have ht : (grid0.coords t 0).val < 32 := (grid0.coords t 0).isLt
  blk_simp [iblk]
  rw [show (win0_1.blk t).view.emb (ix2 7 k) = ix2 (⟨512 * (grid0.coords t 0).val - 1, by omega⟩ : Fin 16384) k by blk_ext [idx1]]
  exact x_apply m c _ k

theorem blk_after (t : Fin cfg0.N) (h : (512 * (grid0.coords t 0).val + 512) % 8192 ≠ 0) (k : Fin 1024) : (iblk m c 2 t : Vec Ideal S8x1024 .f32) (ix2 0 k) = (insOf m c).X (512 * (grid0.coords t 0).val + 512) k := by
  have ht : (grid0.coords t 0).val < 32 := (grid0.coords t 0).isLt
  blk_simp [iblk]
  rw [show (win0_2.blk t).view.emb (ix2 0 k) = ix2 (⟨512 * (grid0.coords t 0).val + 512, by omega⟩ : Fin 16384) k by blk_ext [idx2]]
  exact x_apply m c _ k

theorem blk_gain (t : Fin cfg0.N) (k : Fin 1024) : (iblk m c 3 t : Vec Ideal S1x1024 .f32) (ix2 0 k) = (insOf m c).g k := by
  blk_simp [iblk]
  rw [show (win0_3.blk t).view.emb (ix2 0 k) = ix2 (0 : Fin 1) k by blk_ext [idx3]]
  exact g_apply m c k

theorem blk_win (t : Fin cfg0.N) (d : Fin 1024) (k : Fin 7168) : (iblk m c 4 t : Vec Ideal S1024x7168 .bf16) (ix2 d k) = (insOf m c).W d k := by
  blk_simp [iblk]
  rw [show (win0_4.blk t).view.emb (ix2 d k) = ix2 d k by blk_ext [idx4]]
  exact W_apply m c d k

theorem blk_conv (t : Fin cfg0.N) (j : Fin 3) (k : Fin 1024) : (iblk m c 5 t : Vec Ideal S3x1024 .f32) (ix2 j k) = (insOf m c).cw j k := by
  blk_simp [iblk]
  rw [show (win0_5.blk t).view.emb (ix2 j k) = ix2 j k by blk_ext [idx5]]
  exact cw_apply m c j k

theorem blk_lg (t : Fin cfg0.N) (k : Fin 1024) : (iblk m c 6 t : Vec Ideal S1x1024 .f32) (ix2 0 k) = (insOf m c).lg k := by
  blk_simp [iblk]
  rw [show (win0_6.blk t).view.emb (ix2 0 k) = ix2 (0 : Fin 1) k by blk_ext [idx6]]
  exact lg_apply m c k

theorem blk_lb (t : Fin cfg0.N) (k : Fin 1024) : (iblk m c 7 t : Vec Ideal S1x1024 .f32) (ix2 0 k) = (insOf m c).lb k := by
  blk_simp [iblk]
  rw [show (win0_7.blk t).view.emb (ix2 0 k) = ix2 (0 : Fin 1) k by blk_ext [idx7]]
  exact lb_apply m c k

theorem blk_sw (t : Fin cfg0.N) (a : Fin 8) (i j : Fin 128) : (iblk m c 8 t : Vec Ideal S8x128x128 .bf16) (ix3 a i j) = (insOf m c).sw a i j := by
  blk_simp [iblk]
  rw [show (win0_8.blk t).view.emb (ix3 a i j) = ix3 a i j by blk_ext [idx8]]
  exact sw_apply m c a i j

theorem blk_sb (t : Fin cfg0.N) (i : Fin 128) (k : Fin 1024) : (iblk m c 9 t : Vec Ideal S128x1024 .f32) (ix2 i k) = (insOf m c).sb ⟨k.val / 128, by omega⟩ i := by
  blk_simp [iblk]
  rw [show (win0_9.blk t).view.emb (ix2 i k) = ix2 i k by blk_ext [idx9]]
  exact sb_apply m c i k

theorem blk_wout (t : Fin cfg0.N) (k : Fin 2048) (d : Fin 1024) : (iblk m c 10 t : Vec Ideal S2048x1024 .bf16) (ix2 k d) = (insOf m c).Wo k d := by
  blk_simp [iblk]
  rw [show (win0_10.blk t).view.emb (ix2 k d) = ix2 k d by blk_ext [idx10]]
  exact Wo_apply m c k d

/-- The blocks of step `t` hold what the layer reads there. -/
theorem holds (t : Fin cfg0.N) : Holds (insOf m c) (grid0.coords t 0).val (iblk m c 0 t) (iblk m c 1 t) (iblk m c 2 t) (iblk m c 3 t)
    (iblk m c 4 t) (iblk m c 5 t) (iblk m c 6 t) (iblk m c 7 t) (iblk m c 8 t) (iblk m c 9 t) (iblk m c 10 t) :=
  ⟨blk_own m c t, blk_before m c t, blk_after m c t, blk_gain m c t, blk_win m c t, blk_conv m c t, blk_lg m c t, blk_lb m c t, blk_sw m c t, blk_sb m c t, blk_wout m c t⟩

/-- The layer's result as an array. -/
def res (I : Ins) : FVec Ideal S16384x1024 .f32 := fun i => out I (i 0).val (i 1)

/-- THE KERNEL'S RESULT ARRAY is the layer's. -/
theorem final : (dats m 0 c).arrAt 11 cfg0.N = res (insOf m c) := by
  refine (dats m 0 c).arrAt_eq_of_covers 11 _ (by decide +kernel) fun t hf y => ?_
  blk_simp
  rw [after0_11, eq_ix2 (n0 := 512) (n1 := 1024) y]
  refine (out_block (holds m c t) (y 0) (y 1)).trans ?_
  have ht : (grid0.coords t 0).val < 32 := (grid0.coords t 0).isLt
  rw [show (win0_11.blk t).view.emb (ix2 (y 0) (y 1)) = ix2 (⟨512 * (grid0.coords t 0).val + (y 0).val, by have : (y 0).val < 512 := (y 0).isLt; omega⟩ : Fin 16384) (y 1) by
      blk_ext [idx11]]
  rfl

end Cert.Even

end
-- ==== Proof.Even.Ref.lean ====
/- The reference's result read down to the layer's. -/
module

public import proofs.«01_k».proof.Proof.Even.Arr
public import proofs.«01_k».proof.Proof.Gen.ReferenceIdeal.Read

@[expose] public section

set_option maxRecDepth 16384

noncomputable section

namespace Cert.Even.Ref

open Cert.ReferenceIdeal Cert.ReferenceIdeal.Gen Cert.ReferenceIdeal.Read Idealize.ShloMosaic Idealize.ShloMosaic.Pointwise

variable (x0 : Vec Ideal S2x8192x1024 .f32) (x1 : Vec Ideal S1x1024 .f32) (x2 : Vec Ideal S1x1024x7168 .f32) (x3 : Vec Ideal S1x3x1024 .f32)
  (x4 x5 : Vec Ideal S1x1024 .f32) (x6 : Vec Ideal S1x8x128x128 .f32) (x7 : Vec Ideal S1x8x128 .f32) (x8 : Vec Ideal S1x2048x1024 .f32)
  (b : Fin 2) (s : Fin 8192)

theorem zero_int : (FloatOps.sitofp .f32 0#32 : Ideal .f32) = 0 := by
  show (((0#32 : BitVec 32).toInt : ℝ) : EReal) = 0
  simp

/-- The scaled row. -/
theorem v13_at (k : Fin 1024) : val_main_v13 (F := Ideal) x0 x1 (ix3 b s k) = nrm (fun j => x0 (ix3 b s j)) (fun j => x1 (ix2 0 j)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, nrm]

theorem v21_at (e : Fin 7168) : val_main_v21 (F := Ideal) x0 x1 x2 (ix3 b s e)
    = prj (fun j => x0 (ix3 b s j)) (fun j => x1 (ix2 0 j)) (fun d => x2 (ix3 0 d e)) := by
  unfold val_main_v21 prj
  simp only [← v13_at]
  generalize val_main_v13 (F := Ideal) x0 x1 = y
  pointwise [val_main_v14]

/-- A row of any layer norm. -/
theorem v77_at (v : Fin 1024 → EReal) (hv : ∀ k, val_main_v27 (F := Ideal) x0 x1 x2 (ix3 b s k) = v k) (k : Fin 1024) :
    val_main_v77 (F := Ideal) x0 x1 x2 x4 x5 (ix3 b s k) = lnm v (fun j => x4 (ix2 0 j)) (fun j => x5 (ix2 0 j)) k := by
  unfold lnm cen
  simp only [← hv]
  unfold val_main_v77 val_main_v74 val_main_v71 val_main_v66 val_main_v65 val_main_v70 val_main_v69 val_main_v68 val_main_v64 val_main_v62
    val_main_v61 val_main_v60 val_main_v59 val_main_v58 val_main_v57 val_main_v55 val_main_v54
  generalize val_main_v27 (F := Ideal) x0 x1 x2 = y
  pointwise [val_main_v67, val_main_v63, val_main_v56, val_main_cst_3, val_main_cst_4, val_main_cst_5, val_main_cst_6, val_main_cst_7,
    val_main_v76, val_main_v75, val_main_v73, val_main_v72, val_main_v16, val_main_v17]

theorem v33_at (k : Fin 1024) : val_main_v33 (F := Ideal) x0 x1 x2 (ix3 b s k)
    = if h : s.val = 0 then 0 else val_main_v29 (F := Ideal) x0 x1 x2 (ix3 b ⟨s.val - 1, by omega⟩ k) := by
  unfold val_main_v33 val_main_v32
  generalize val_main_v29 (F := Ideal) x0 x1 x2 = y
  pointwise [val_main_call0_v0, val_main_c]
  by_cases h : s.val = 0
  · rw [dif_neg (by omega), dif_pos h, zero_int]
  · rw [dif_pos (by omega), dif_neg h]

theorem v46_at (k : Fin 1024) : val_main_v46 (F := Ideal) x0 x1 x2 (ix3 b s k)
    = if h : s.val = 8191 then 0 else val_main_v29 (F := Ideal) x0 x1 x2 (ix3 b ⟨s.val + 1, by omega⟩ k) := by
  unfold val_main_v46 val_main_v45
  generalize val_main_v29 (F := Ideal) x0 x1 x2 = y
  pointwise [val_main_call1_v0, val_main_c_2]
  by_cases h : s.val = 8191
  · rw [dif_neg (by omega), dif_pos h, zero_int]
  · rw [dif_pos (by omega), dif_neg h]
    exact congrArg (fun q => y (ix3 b q k)) (Fin.ext (Nat.add_comm 1 s.val))

/-- The first branch, over the projection's rows. -/
theorem v53_at (k : Fin 1024) : val_main_v53 (F := Ideal) x0 x1 x2 x3 (ix3 b s k)
    = val_main_v23 (F := Ideal) x0 x1 x2 (ix3 b s k)
      * (x3 (ix3 0 0 k) * val_main_v33 (F := Ideal) x0 x1 x2 (ix3 b s k) + x3 (ix3 0 1 k) * val_main_v29 (F := Ideal) x0 x1 x2 (ix3 b s k)
        + x3 (ix3 0 2 k) * val_main_v46 (F := Ideal) x0 x1 x2 (ix3 b s k))
      * silu (val_main_v25 (F := Ideal) x0 x1 x2 (ix3 b s k)) := by
  unfold val_main_v53 val_main_v51 val_main_v50 val_main_v49 val_main_v42 val_main_v41 val_main_v36 val_main_v52 val_main_call2_v5
    val_main_call2_v3 val_main_call2_v1 val_main_call2_v0 silu
  generalize val_main_v23 (F := Ideal) x0 x1 x2 = y23
  generalize val_main_v33 (F := Ideal) x0 x1 x2 = y33
  generalize val_main_v29 (F := Ideal) x0 x1 x2 = y29
  generalize val_main_v46 (F := Ideal) x0 x1 x2 = y46
  generalize val_main_v25 (F := Ideal) x0 x1 x2 = y25
  pointwise [val_main_call2_v2, val_main_call2_v4, val_main_call2_cst, val_main_call2_cst_0, val_main_v48, val_main_v47, val_main_v44, val_main_v43,
    val_main_v40, val_main_v39, val_main_v38, val_main_v37, val_main_v35, val_main_v34, val_main_v31, val_main_v30, val_main_v15]
  rfl

/-- The mixing. -/
theorem v86_at (k : Fin 1024) : val_main_v86 (F := Ideal) x0 x1 x2 x4 x5 x6 x7 (ix3 b s k)
    = (∑ j : Fin 128, x6 (ix4 0 ⟨k.val / 128, by omega⟩ ⟨s.val % 128, by omega⟩ j)
        * val_main_v77 (F := Ideal) x0 x1 x2 x4 x5 (ix3 b ⟨s.val / 128 * 128 + j.val, by omega⟩ k))
      + x7 (ix3 0 ⟨k.val / 128, by omega⟩ ⟨s.val % 128, by omega⟩) := by
  unfold val_main_v86 val_main_v85 val_main_v80 val_main_v79 val_main_v78
  generalize val_main_v77 (F := Ideal) x0 x1 x2 x4 x5 = y
  pointwise [val_main_v84, val_main_v83, val_main_v82, val_main_v81, val_main_v19, val_main_v18]
  exact congrArg₂ (fun p q : EReal => p + q) (Finset.sum_congr rfl fun j _ => mul_comm _ _) rfl

/-- The second branch. -/
theorem v89_at (k : Fin 1024) : val_main_v89 (F := Ideal) x0 x1 x2 x4 x5 x6 x7 (ix3 b s k)
    = val_main_v26 (F := Ideal) x0 x1 x2 (ix3 b s k) * val_main_v86 (F := Ideal) x0 x1 x2 x4 x5 x6 x7 (ix3 b s k)
      * silu (val_main_v28 (F := Ideal) x0 x1 x2 (ix3 b s k)) := by
  unfold val_main_v89 val_main_v87 val_main_v88 val_main_call3_v5 val_main_call3_v3 val_main_call3_v1 val_main_call3_v0 silu
  generalize val_main_v86 (F := Ideal) x0 x1 x2 x4 x5 x6 x7 = y86
  generalize val_main_v26 (F := Ideal) x0 x1 x2 = y26
  generalize val_main_v28 (F := Ideal) x0 x1 x2 = y28
  pointwise [val_main_call3_v2, val_main_call3_v4, val_main_call3_cst, val_main_call3_cst_0]
  rfl

theorem v90_at (k : Fin 2048) : val_main_v90 (F := Ideal) x0 x1 x2 x3 x4 x5 x6 x7 (ix3 b s k)
    = if h : k.val < 1024 then val_main_v53 (F := Ideal) x0 x1 x2 x3 (ix3 b s ⟨k.val, h⟩)
      else val_main_v89 (F := Ideal) x0 x1 x2 x4 x5 x6 x7 (ix3 b s ⟨k.val - 1024, by omega⟩) := by
  unfold val_main_v90
  generalize val_main_v53 (F := Ideal) x0 x1 x2 x3 = y
  generalize val_main_v89 (F := Ideal) x0 x1 x2 x4 x5 x6 x7 = z
  pointwise

theorem v93_at (R : Fin 16384) (c : Fin 1024) : val_main_v93 (F := Ideal) x0 x1 x2 x3 x4 x5 x6 x7 x8 (ix2 R c)
    = x0 (ix3 ⟨R.val / 8192, by omega⟩ ⟨R.val % 8192, by omega⟩ c)
      + ∑ k : Fin 2048, val_main_v90 (F := Ideal) x0 x1 x2 x3 x4 x5 x6 x7 (ix3 ⟨R.val / 8192, by omega⟩ ⟨R.val % 8192, by omega⟩ k)
          * x8 (ix3 0 k c) := by
  unfold val_main_v93 val_main_v92 val_main_v91
  generalize val_main_v90 (F := Ideal) x0 x1 x2 x3 x4 x5 x6 x7 = y
  pointwise [val_main_v20]

/-! The stages over the layer's arrays, at token `n = 8192·b + s`. -/

theorem X_at : (ins x0 x1 x2 x3 x4 x5 x6 x7 x8).X (8192 * b.val + s.val) = fun j => x0 (ix3 b s j) := by
  funext j
  refine congrArg₂ (fun p q => x0 (ix3 p q j)) (Fin.ext ?_) (Fin.ext ?_)
  · show (8192 * b.val + s.val) / 8192 % 2 = b.val
    omega
  · show (8192 * b.val + s.val) % 8192 = s.val
    omega

theorem P_at (o : Fin 7) (e : Fin 7168) (c : Fin 1024) (h : e.val = 1024 * o.val + c.val) :
    val_main_v21 (F := Ideal) x0 x1 x2 (ix3 b s e) = P (ins x0 x1 x2 x3 x4 x5 x6 x7 x8) o (8192 * b.val + s.val) c := by
  rw [v21_at, P, X_at]
  rw [show e = ⟨1024 * o.val + c.val, by omega⟩ from Fin.ext h]
  rfl

theorem v22_at (c : Fin 1024) : val_main_v22 (F := Ideal) x0 x1 x2 (ix3 b s c) = P (ins x0 x1 x2 x3 x4 x5 x6 x7 x8) 0 (8192 * b.val + s.val) c := by
  rw [← P_at x0 x1 x2 x3 x4 x5 x6 x7 x8 b s 0 ⟨c.val, by omega⟩ c (by simp)]
  unfold val_main_v22
  generalize val_main_v21 (F := Ideal) x0 x1 x2 = y
  pointwise

theorem v23_at (c : Fin 1024) : val_main_v23 (F := Ideal) x0 x1 x2 (ix3 b s c) = P (ins x0 x1 x2 x3 x4 x5 x6 x7 x8) 1 (8192 * b.val + s.val) c := by
  rw [← P_at x0 x1 x2 x3 x4 x5 x6 x7 x8 b s 1 ⟨1024 + c.val, by omega⟩ c (by simp)]
  unfold val_main_v23
  generalize val_main_v21 (F := Ideal) x0 x1 x2 = y
  pointwise

theorem v24_at (c : Fin 1024) : val_main_v24 (F := Ideal) x0 x1 x2 (ix3 b s c) = P (ins x0 x1 x2 x3 x4 x5 x6 x7 x8) 2 (8192 * b.val + s.val) c := by
  rw [← P_at x0 x1 x2 x3 x4 x5 x6 x7 x8 b s 2 ⟨2048 + c.val, by omega⟩ c (by simp)]
  unfold val_main_v24
  generalize val_main_v21 (F := Ideal) x0 x1 x2 = y
  pointwise

theorem v25_at (c : Fin 1024) : val_main_v25 (F := Ideal) x0 x1 x2 (ix3 b s c) = P (ins x0 x1 x2 x3 x4 x5 x6 x7 x8) 3 (8192 * b.val + s.val) c := by
  rw [← P_at x0 x1 x2 x3 x4 x5 x6 x7 x8 b s 3 ⟨3072 + c.val, by omega⟩ c (by simp)]
  unfold val_main_v25
  generalize val_main_v21 (F := Ideal) x0 x1 x2 = y
  pointwise

theorem v26_at (c : Fin 1024) : val_main_v26 (F := Ideal) x0 x1 x2 (ix3 b s c) = P (ins x0 x1 x2 x3 x4 x5 x6 x7 x8) 4 (8192 * b.val + s.val) c := by
  rw [← P_at x0 x1 x2 x3 x4 x5 x6 x7 x8 b s 4 ⟨4096 + c.val, by omega⟩ c (by simp)]
  unfold val_main_v26
  generalize val_main_v21 (F := Ideal) x0 x1 x2 = y
  pointwise

theorem v27_at (c : Fin 1024) : val_main_v27 (F := Ideal) x0 x1 x2 (ix3 b s c) = P (ins x0 x1 x2 x3 x4 x5 x6 x7 x8) 5 (8192 * b.val + s.val) c := by
  rw [← P_at x0 x1 x2 x3 x4 x5 x6 x7 x8 b s 5 ⟨5120 + c.val, by omega⟩ c (by simp)]
  unfold val_main_v27
  generalize val_main_v21 (F := Ideal) x0 x1 x2 = y
  pointwise

theorem v28_at (c : Fin 1024) : val_main_v28 (F := Ideal) x0 x1 x2 (ix3 b s c) = P (ins x0 x1 x2 x3 x4 x5 x6 x7 x8) 6 (8192 * b.val + s.val) c := by
  rw [← P_at x0 x1 x2 x3 x4 x5 x6 x7 x8 b s 6 ⟨6144 + c.val, by omega⟩ c (by simp)]
  unfold val_main_v28
  generalize val_main_v21 (F := Ideal) x0 x1 x2 = y
  pointwise

theorem v29_at (c : Fin 1024) : val_main_v29 (F := Ideal) x0 x1 x2 (ix3 b s c) = gate (ins x0 x1 x2 x3 x4 x5 x6 x7 x8) (8192 * b.val + s.val) c := by
  unfold gate
  rw [← v22_at, ← v24_at]
  exact mul_comm _ _

theorem prev_at (c : Fin 1024) : val_main_v33 (F := Ideal) x0 x1 x2 (ix3 b s c) = prev (ins x0 x1 x2 x3 x4 x5 x6 x7 x8) (8192 * b.val + s.val) c := by
  rw [v33_at]
  unfold prev
  by_cases h : s.val = 0
  · rw [dif_pos h, if_pos (by omega)]
  · rw [dif_neg h, if_neg (by omega), v29_at x0 x1 x2 x3 x4 x5 x6 x7 x8]
    exact congrArg (fun q => gate (ins x0 x1 x2 x3 x4 x5 x6 x7 x8) q c) (by show 8192 * b.val + (s.val - 1) = _; omega)

theorem next_at (c : Fin 1024) : val_main_v46 (F := Ideal) x0 x1 x2 (ix3 b s c) = next (ins x0 x1 x2 x3 x4 x5 x6 x7 x8) (8192 * b.val + s.val) c := by
  rw [v46_at]
  unfold next
  by_cases h : s.val = 8191
  · rw [dif_pos h, if_pos (by omega)]
  · rw [dif_neg h, if_neg (by omega), v29_at x0 x1 x2 x3 x4 x5 x6 x7 x8]
    exact congrArg (fun q => gate (ins x0 x1 x2 x3 x4 x5 x6 x7 x8) q c) (by show 8192 * b.val + (s.val + 1) = _; omega)

theorem brA_at (c : Fin 1024) : val_main_v53 (F := Ideal) x0 x1 x2 x3 (ix3 b s c) = brA (ins x0 x1 x2 x3 x4 x5 x6 x7 x8) (8192 * b.val + s.val) c := by
  rw [v53_at, prev_at x0 x1 x2 x3 x4 x5 x6 x7 x8, next_at x0 x1 x2 x3 x4 x5 x6 x7 x8, v29_at x0 x1 x2 x3 x4 x5 x6 x7 x8,
    v23_at x0 x1 x2 x3 x4 x5 x6 x7 x8, v25_at x0 x1 x2 x3 x4 x5 x6 x7 x8]
  rfl

theorem vn_at (c : Fin 1024) : val_main_v77 (F := Ideal) x0 x1 x2 x4 x5 (ix3 b s c) = vn (ins x0 x1 x2 x3 x4 x5 x6 x7 x8) (8192 * b.val + s.val) c :=
  v77_at x0 x1 x2 x4 x5 b s _ (v27_at x0 x1 x2 x3 x4 x5 x6 x7 x8 b s) c

theorem mix_at (c : Fin 1024) : val_main_v86 (F := Ideal) x0 x1 x2 x4 x5 x6 x7 (ix3 b s c) = mix (ins x0 x1 x2 x3 x4 x5 x6 x7 x8) (8192 * b.val + s.val) c := by
  rw [v86_at]
  unfold mix
  have e : (⟨s.val % 128, by omega⟩ : Fin 128) = ⟨(8192 * b.val + s.val) % 128, by omega⟩ := Fin.ext (by show s.val % 128 = _ % 128; omega)
  rw [e]
  refine congrArg₂ (fun p q : EReal => p + q) (Finset.sum_congr rfl fun j _ => ?_) rfl
  refine congrArg₂ (fun p q : EReal => p * q) rfl ?_
  rw [vn_at x0 x1 x2 x3 x4 x5 x6 x7 x8]
  exact congrArg (fun q => vn (ins x0 x1 x2 x3 x4 x5 x6 x7 x8) q c) (by show 8192 * b.val + (s.val / 128 * 128 + j.val) = _; omega)

theorem brB_at (c : Fin 1024) : val_main_v89 (F := Ideal) x0 x1 x2 x4 x5 x6 x7 (ix3 b s c) = brB (ins x0 x1 x2 x3 x4 x5 x6 x7 x8) (8192 * b.val + s.val) c := by
  rw [v89_at, mix_at x0 x1 x2 x3 x4 x5 x6 x7 x8, v26_at x0 x1 x2 x3 x4 x5 x6 x7 x8, v28_at x0 x1 x2 x3 x4 x5 x6 x7 x8]
  rfl

/-- A sum of 2048 terms, cut in its two halves. -/
theorem halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

/-- THE REFERENCE'S RESULT ARRAY is the layer's. -/
theorem val_res : val_main_v93 (F := Ideal) x0 x1 x2 x3 x4 x5 x6 x7 x8 = res (ins x0 x1 x2 x3 x4 x5 x6 x7 x8) := by
  suffices h : ∀ (R : Fin 16384) (c : Fin 1024), val_main_v93 (F := Ideal) x0 x1 x2 x3 x4 x5 x6 x7 x8 (ix2 R c)
      = out (ins x0 x1 x2 x3 x4 x5 x6 x7 x8) R.val c by
    funext y
    rw [eq_ix2 (n0 := 16384) (n1 := 1024) y]
    exact h (y 0) (y 1)
  intro R c
  rw [v93_at, halves]
  have e : 8192 * (R.val / 8192) + R.val % 8192 = R.val := by omega
  unfold out
  rw [add_assoc]
  refine congrArg₂ (fun p q : EReal => p + q) ?_ (congrArg₂ (fun p q : EReal => p + q) ?_ ?_)
  · refine Eq.trans ?_ (congrArg (fun q => (ins x0 x1 x2 x3 x4 x5 x6 x7 x8).X q c) e)
    exact (congrFun (X_at x0 x1 x2 x3 x4 x5 x6 x7 x8 ⟨R.val / 8192, by omega⟩ ⟨R.val % 8192, by omega⟩) c).symm
  · refine Finset.sum_congr rfl fun k _ => congrArg₂ (fun p q : EReal => p * q) ?_ rfl
    rw [v90_at, dif_pos (show k.val < 1024 from k.isLt), brA_at x0 x1 x2 x3 x4 x5 x6 x7 x8]
    exact congrArg (fun q => brA (ins x0 x1 x2 x3 x4 x5 x6 x7 x8) q k) e
  · refine Finset.sum_congr rfl fun k _ => congrArg₂ (fun p q : EReal => p * q) ?_ rfl
    rw [v90_at, dif_neg (show ¬ 1024 + k.val < 1024 by omega), brB_at x0 x1 x2 x3 x4 x5 x6 x7 x8]
    exact congrArg₂ (fun q k => brB (ins x0 x1 x2 x3 x4 x5 x6 x7 x8) q k) e (Fin.ext (by show 1024 + k.val - 1024 = k.val; omega))

end Cert.Even.Ref

end
-- ==== Proof.Proj.Arr.lean ====
/- The projection's kernel run: the arrays its windows read, and the array it leaves. -/
module

public import proofs.«01_k».proof.Proof.Even.Spec
public import proofs.«01_k».proof.Proof.Gen.Kernel2Ideal.Value
public import Idealize.ShloMosaic.Lib.Pipeline.ValueKit.Geometry

@[expose] public section

set_option maxRecDepth 16384

noncomputable section

namespace Cert.Proj

open Cert.Even (len epsR nrm prj)
open Cert.Kernel2Ideal Cert.Kernel2Ideal.Gen Idealize.ShloMosaic Idealize.ShloMosaic.TcCoe Idealize.SL.Sem
open Idealize.ShloMosaic.Pipeline (Dat)

/-- The weight column behind column `e` of the result: the three heads' blocks interleaved by 128, then the rest, with its first 128 last. -/
def perm (e : Fin 5248) : Fin 5248 :=
  if h : e.val < 3072 then ⟨e.val / 128 % 3 * 1024 + e.val / 384 * 128 + e.val % 128, by omega⟩
  else if e.val < 5120 then ⟨(e.val + 128) % 5248, by omega⟩ else ⟨(e.val - 2048) % 5248, by omega⟩

/-- The projection of every row. -/
def res (x : Vec Ideal S16384x1024 .f32) (g : Vec Ideal S1x1024 .f32) (w : Vec Ideal S1x1024x5248 .f32) : FVec Ideal S16384x5248 .f32 :=
  fun i => prj (fun k => x (ix2 (i 0) k)) (fun k => g (ix2 0 k)) (fun d => w (ix3 0 d (perm (i 1))))

/-- The body's result at an index. -/
theorem pay_apply (x : Vec Ideal S512x1024 .f32) (g : Vec Ideal S1x1024 .f32) (w : Vec Ideal S1024x5248 .bf16) (r : Fin 512) (e : Fin 5248) :
    out0_3 (F := Ideal) x g w (ix2 r e) = prj (fun k => x (ix2 r k)) (fun k => g (ix2 0 k)) (fun d => w (ix2 d e)) := by
  unfold out0_3
  rw [View.canon_unit_zero (h := by funext a; fin_cases a <;> rfl)]
  pointwise [k0_pay1, prj, nrm]

/-- The first sixteen column blocks, and the rest. -/
def half1 (a : Vec Ideal S1024x5248 .f32) : Vec Ideal S1024x2048 .f32 :=
  concatenate S1024x2048 1
    [⟨S1024x128, extractStridedSlice S1024x128 ![0, 0] a slices_S1024x5248_S1024x128_0_0⟩,
     ⟨S1024x128, extractStridedSlice S1024x128 ![0, 1024] a slices_S1024x5248_S1024x128_0_1024⟩,
     ⟨S1024x128, extractStridedSlice S1024x128 ![0, 2048] a slices_S1024x5248_S1024x128_0_2048⟩,
     ⟨S1024x128, extractStridedSlice S1024x128 ![0, 128] a slices_S1024x5248_S1024x128_0_128⟩,
     ⟨S1024x128, extractStridedSlice S1024x128 ![0, 1152] a slices_S1024x5248_S1024x128_0_1152⟩,
     ⟨S1024x128, extractStridedSlice S1024x128 ![0, 2176] a slices_S1024x5248_S1024x128_0_2176⟩,
     ⟨S1024x128, extractStridedSlice S1024x128 ![0, 256] a slices_S1024x5248_S1024x128_0_256⟩,
     ⟨S1024x128, extractStridedSlice S1024x128 ![0, 1280] a slices_S1024x5248_S1024x128_0_1280⟩,
     ⟨S1024x128, extractStridedSlice S1024x128 ![0, 2304] a slices_S1024x5248_S1024x128_0_2304⟩,
     ⟨S1024x128, extractStridedSlice S1024x128 ![0, 384] a slices_S1024x5248_S1024x128_0_384⟩,
     ⟨S1024x128, extractStridedSlice S1024x128 ![0, 1408] a slices_S1024x5248_S1024x128_0_1408⟩,
     ⟨S1024x128, extractStridedSlice S1024x128 ![0, 2432] a slices_S1024x5248_S1024x128_0_2432⟩,
     ⟨S1024x128, extractStridedSlice S1024x128 ![0, 512] a slices_S1024x5248_S1024x128_0_512⟩,
     ⟨S1024x128, extractStridedSlice S1024x128 ![0, 1536] a slices_S1024x5248_S1024x128_0_1536⟩,
     ⟨S1024x128, extractStridedSlice S1024x128 ![0, 2560] a slices_S1024x5248_S1024x128_0_2560⟩,
     ⟨S1024x128, extractStridedSlice S1024x128 ![0, 640] a slices_S1024x5248_S1024x128_0_640⟩]
    concatenates_S1024x128_S1024x128_S1024x128_S1024x128_S1024x128_S1024x128_S1024x128_S1024x128_S1024x128_S1024x128_S1024x128_S1024x128_S1024x128_S1024x128_S1024x128_S1024x128_S1024x2048_d1

def half2 (a : Vec Ideal S1024x5248 .f32) : Vec Ideal S1024x3200 .f32 :=
  concatenate S1024x3200 1
    [⟨S1024x128, extractStridedSlice S1024x128 ![0, 1664] a slices_S1024x5248_S1024x128_0_1664⟩,
     ⟨S1024x128, extractStridedSlice S1024x128 ![0, 2688] a slices_S1024x5248_S1024x128_0_2688⟩,
     ⟨S1024x128, extractStridedSlice S1024x128 ![0, 768] a slices_S1024x5248_S1024x128_0_768⟩,
     ⟨S1024x128, extractStridedSlice S1024x128 ![0, 1792] a slices_S1024x5248_S1024x128_0_1792⟩,
     ⟨S1024x128, extractStridedSlice S1024x128 ![0, 2816] a slices_S1024x5248_S1024x128_0_2816⟩,
     ⟨S1024x128, extractStridedSlice S1024x128 ![0, 896] a slices_S1024x5248_S1024x128_0_896⟩,
     ⟨S1024x128, extractStridedSlice S1024x128 ![0, 1920] a slices_S1024x5248_S1024x128_0_1920⟩,
     ⟨S1024x128, extractStridedSlice S1024x128 ![0, 2944] a slices_S1024x5248_S1024x128_0_2944⟩,
     ⟨S1024x2048, extractStridedSlice S1024x2048 ![0, 3200] a slices_S1024x5248_S1024x2048_0_3200⟩,
     ⟨S1024x128, extractStridedSlice S1024x128 ![0, 3072] a slices_S1024x5248_S1024x128_0_3072⟩]
    concatenates_S1024x128_S1024x128_S1024x128_S1024x128_S1024x128_S1024x128_S1024x128_S1024x128_S1024x2048_S1024x128_S1024x3200_d1

theorem cut128 (a : Vec Ideal S1024x5248 .f32) (o : ℕ) (h : S1024x5248.Slices ![0, o] S1024x128) (d : Fin 1024) (q : Fin 128) (i : Fin 5248)
    (hi : o + q.val = i.val) : extractStridedSlice S1024x128 ![0, o] a h (ix2 d q) = a (ix2 d i) := by
  pointwise
  exact congrArg (fun p => a (ix2 d p)) (Fin.ext hi)

theorem cut2048 (a : Vec Ideal S1024x5248 .f32) (o : ℕ) (h : S1024x5248.Slices ![0, o] S1024x2048) (d : Fin 1024) (q : Fin 2048) (i : Fin 5248)
    (hi : o + q.val = i.val) : extractStridedSlice S1024x2048 ![0, o] a h (ix2 d q) = a (ix2 d i) := by
  pointwise
  exact congrArg (fun p => a (ix2 d p)) (Fin.ext hi)

theorem perm_lt (e : Fin 5248) (h : e.val < 3072) : (perm e).val = e.val / 128 % 3 * 1024 + e.val / 384 * 128 + e.val % 128 := by
  rw [perm, dif_pos h]

theorem perm_mid (e : Fin 5248) (h : 3072 ≤ e.val) (h' : e.val < 5120) : (perm e).val = e.val + 128 := by
  rw [perm, dif_neg (by omega), if_pos h']
  show (e.val + 128) % 5248 = _
  omega

theorem perm_ge (e : Fin 5248) (h : 5120 ≤ e.val) : (perm e).val = e.val - 2048 := by
  rw [perm, dif_neg (by omega), if_neg (by omega)]
  show (e.val - 2048) % 5248 = _
  omega

theorem half1_0 (a : Vec Ideal S1024x5248 .f32) (d : Fin 1024) (e : Fin 2048) (h : 0 ≤ e.val) (h' : e.val < 128) :
    half1 a (ix2 d e) = a (ix2 d ⟨e.val / 128 % 3 * 1024 + e.val / 384 * 128 + e.val % 128, by omega⟩) :=
  (concatenate_apply_piece (1 : Fin 2) _ _ (ix2 d e) 0 (by show 0 < 16; omega) S1024x128 _ rfl rfl 0 (rfl) (ix2 d ⟨e.val - 0, by omega⟩)
    (fun b hb => by fin_cases b; exacts [rfl, absurd rfl hb]) (by show 0 + (e.val - 0) = e.val; omega)).trans
    (cut128 a 0 _ d _ _ (by show 0 + (e.val - 0) = e.val / 128 % 3 * 1024 + e.val / 384 * 128 + e.val % 128; omega))

theorem half1_1 (a : Vec Ideal S1024x5248 .f32) (d : Fin 1024) (e : Fin 2048) (h : 128 ≤ e.val) (h' : e.val < 256) :
    half1 a (ix2 d e) = a (ix2 d ⟨e.val / 128 % 3 * 1024 + e.val / 384 * 128 + e.val % 128, by omega⟩) :=
  (concatenate_apply_piece (1 : Fin 2) _ _ (ix2 d e) 1 (by show 1 < 16; omega) S1024x128 _ rfl rfl 128 (rfl) (ix2 d ⟨e.val - 128, by omega⟩)
    (fun b hb => by fin_cases b; exacts [rfl, absurd rfl hb]) (by show 128 + (e.val - 128) = e.val; omega)).trans
    (cut128 a 1024 _ d _ _ (by show 1024 + (e.val - 128) = e.val / 128 % 3 * 1024 + e.val / 384 * 128 + e.val % 128; omega))

theorem half1_2 (a : Vec Ideal S1024x5248 .f32) (d : Fin 1024) (e : Fin 2048) (h : 256 ≤ e.val) (h' : e.val < 384) :
    half1 a (ix2 d e) = a (ix2 d ⟨e.val / 128 % 3 * 1024 + e.val / 384 * 128 + e.val % 128, by omega⟩) :=
  (concatenate_apply_piece (1 : Fin 2) _ _ (ix2 d e) 2 (by show 2 < 16; omega) S1024x128 _ rfl rfl 256 (rfl) (ix2 d ⟨e.val - 256, by omega⟩)
    (fun b hb => by fin_cases b; exacts [rfl, absurd rfl hb]) (by show 256 + (e.val - 256) = e.val; omega)).trans
    (cut128 a 2048 _ d _ _ (by show 2048 + (e.val - 256) = e.val / 128 % 3 * 1024 + e.val / 384 * 128 + e.val % 128; omega))

theorem half1_3 (a : Vec Ideal S1024x5248 .f32) (d : Fin 1024) (e : Fin 2048) (h : 384 ≤ e.val) (h' : e.val < 512) :
    half1 a (ix2 d e) = a (ix2 d ⟨e.val / 128 % 3 * 1024 + e.val / 384 * 128 + e.val % 128, by omega⟩) :=
  (concatenate_apply_piece (1 : Fin 2) _ _ (ix2 d e) 3 (by show 3 < 16; omega) S1024x128 _ rfl rfl 384 (rfl) (ix2 d ⟨e.val - 384, by omega⟩)
    (fun b hb => by fin_cases b; exacts [rfl, absurd rfl hb]) (by show 384 + (e.val - 384) = e.val; omega)).trans
    (cut128 a 128 _ d _ _ (by show 128 + (e.val - 384) = e.val / 128 % 3 * 1024 + e.val / 384 * 128 + e.val % 128; omega))

theorem half1_4 (a : Vec Ideal S1024x5248 .f32) (d : Fin 1024) (e : Fin 2048) (h : 512 ≤ e.val) (h' : e.val < 640) :
    half1 a (ix2 d e) = a (ix2 d ⟨e.val / 128 % 3 * 1024 + e.val / 384 * 128 + e.val % 128, by omega⟩) :=
  (concatenate_apply_piece (1 : Fin 2) _ _ (ix2 d e) 4 (by show 4 < 16; omega) S1024x128 _ rfl rfl 512 (rfl) (ix2 d ⟨e.val - 512, by omega⟩)
    (fun b hb => by fin_cases b; exacts [rfl, absurd rfl hb]) (by show 512 + (e.val - 512) = e.val; omega)).trans
    (cut128 a 1152 _ d _ _ (by show 1152 + (e.val - 512) = e.val / 128 % 3 * 1024 + e.val / 384 * 128 + e.val % 128; omega))

theorem half1_5 (a : Vec Ideal S1024x5248 .f32) (d : Fin 1024) (e : Fin 2048) (h : 640 ≤ e.val) (h' : e.val < 768) :
    half1 a (ix2 d e) = a (ix2 d ⟨e.val / 128 % 3 * 1024 + e.val / 384 * 128 + e.val % 128, by omega⟩) :=
  (concatenate_apply_piece (1 : Fin 2) _ _ (ix2 d e) 5 (by show 5 < 16; omega) S1024x128 _ rfl rfl 640 (rfl) (ix2 d ⟨e.val - 640, by omega⟩)
    (fun b hb => by fin_cases b; exacts [rfl, absurd rfl hb]) (by show 640 + (e.val - 640) = e.val; omega)).trans
    (cut128 a 2176 _ d _ _ (by show 2176 + (e.val - 640) = e.val / 128 % 3 * 1024 + e.val / 384 * 128 + e.val % 128; omega))

theorem half1_6 (a : Vec Ideal S1024x5248 .f32) (d : Fin 1024) (e : Fin 2048) (h : 768 ≤ e.val) (h' : e.val < 896) :
    half1 a (ix2 d e) = a (ix2 d ⟨e.val / 128 % 3 * 1024 + e.val / 384 * 128 + e.val % 128, by omega⟩) :=
  (concatenate_apply_piece (1 : Fin 2) _ _ (ix2 d e) 6 (by show 6 < 16; omega) S1024x128 _ rfl rfl 768 (rfl) (ix2 d ⟨e.val - 768, by omega⟩)
    (fun b hb => by fin_cases b; exacts [rfl, absurd rfl hb]) (by show 768 + (e.val - 768) = e.val; omega)).trans
    (cut128 a 256 _ d _ _ (by show 256 + (e.val - 768) = e.val / 128 % 3 * 1024 + e.val / 384 * 128 + e.val % 128; omega))

theorem half1_7 (a : Vec Ideal S1024x5248 .f32) (d : Fin 1024) (e : Fin 2048) (h : 896 ≤ e.val) (h' : e.val < 1024) :
    half1 a (ix2 d e) = a (ix2 d ⟨e.val / 128 % 3 * 1024 + e.val / 384 * 128 + e.val % 128, by omega⟩) :=
  (concatenate_apply_piece (1 : Fin 2) _ _ (ix2 d e) 7 (by show 7 < 16; omega) S1024x128 _ rfl rfl 896 (rfl) (ix2 d ⟨e.val - 896, by omega⟩)
    (fun b hb => by fin_cases b; exacts [rfl, absurd rfl hb]) (by show 896 + (e.val - 896) = e.val; omega)).trans
    (cut128 a 1280 _ d _ _ (by show 1280 + (e.val - 896) = e.val / 128 % 3 * 1024 + e.val / 384 * 128 + e.val % 128; omega))

theorem half1_8 (a : Vec Ideal S1024x5248 .f32) (d : Fin 1024) (e : Fin 2048) (h : 1024 ≤ e.val) (h' : e.val < 1152) :
    half1 a (ix2 d e) = a (ix2 d ⟨e.val / 128 % 3 * 1024 + e.val / 384 * 128 + e.val % 128, by omega⟩) :=
  (concatenate_apply_piece (1 : Fin 2) _ _ (ix2 d e) 8 (by show 8 < 16; omega) S1024x128 _ rfl rfl 1024 (rfl) (ix2 d ⟨e.val - 1024, by omega⟩)
    (fun b hb => by fin_cases b; exacts [rfl, absurd rfl hb]) (by show 1024 + (e.val - 1024) = e.val; omega)).trans
    (cut128 a 2304 _ d _ _ (by show 2304 + (e.val - 1024) = e.val / 128 % 3 * 1024 + e.val / 384 * 128 + e.val % 128; omega))

theorem half1_9 (a : Vec Ideal S1024x5248 .f32) (d : Fin 1024) (e : Fin 2048) (h : 1152 ≤ e.val) (h' : e.val < 1280) :
    half1 a (ix2 d e) = a (ix2 d ⟨e.val / 128 % 3 * 1024 + e.val / 384 * 128 + e.val % 128, by omega⟩) :=
  (concatenate_apply_piece (1 : Fin 2) _ _ (ix2 d e) 9 (by show 9 < 16; omega) S1024x128 _ rfl rfl 1152 (rfl) (ix2 d ⟨e.val - 1152, by omega⟩)
    (fun b hb => by fin_cases b; exacts [rfl, absurd rfl hb]) (by show 1152 + (e.val - 1152) = e.val; omega)).trans
    (cut128 a 384 _ d _ _ (by show 384 + (e.val - 1152) = e.val / 128 % 3 * 1024 + e.val / 384 * 128 + e.val % 128; omega))

theorem half1_10 (a : Vec Ideal S1024x5248 .f32) (d : Fin 1024) (e : Fin 2048) (h : 1280 ≤ e.val) (h' : e.val < 1408) :
    half1 a (ix2 d e) = a (ix2 d ⟨e.val / 128 % 3 * 1024 + e.val / 384 * 128 + e.val % 128, by omega⟩) :=
  (concatenate_apply_piece (1 : Fin 2) _ _ (ix2 d e) 10 (by show 10 < 16; omega) S1024x128 _ rfl rfl 1280 (rfl) (ix2 d ⟨e.val - 1280, by omega⟩)
    (fun b hb => by fin_cases b; exacts [rfl, absurd rfl hb]) (by show 1280 + (e.val - 1280) = e.val; omega)).trans
    (cut128 a 1408 _ d _ _ (by show 1408 + (e.val - 1280) = e.val / 128 % 3 * 1024 + e.val / 384 * 128 + e.val % 128; omega))

theorem half1_11 (a : Vec Ideal S1024x5248 .f32) (d : Fin 1024) (e : Fin 2048) (h : 1408 ≤ e.val) (h' : e.val < 1536) :
    half1 a (ix2 d e) = a (ix2 d ⟨e.val / 128 % 3 * 1024 + e.val / 384 * 128 + e.val % 128, by omega⟩) :=
  (concatenate_apply_piece (1 : Fin 2) _ _ (ix2 d e) 11 (by show 11 < 16; omega) S1024x128 _ rfl rfl 1408 (by simp [List.take, Shape.size]) (ix2 d ⟨e.val - 1408, by omega⟩)
    (fun b hb => by fin_cases b; exacts [rfl, absurd rfl hb]) (by show 1408 + (e.val - 1408) = e.val; omega)).trans
    (cut128 a 2432 _ d _ _ (by show 2432 + (e.val - 1408) = e.val / 128 % 3 * 1024 + e.val / 384 * 128 + e.val % 128; omega))

theorem half1_12 (a : Vec Ideal S1024x5248 .f32) (d : Fin 1024) (e : Fin 2048) (h : 1536 ≤ e.val) (h' : e.val < 1664) :
    half1 a (ix2 d e) = a (ix2 d ⟨e.val / 128 % 3 * 1024 + e.val / 384 * 128 + e.val % 128, by omega⟩) :=
  (concatenate_apply_piece (1 : Fin 2) _ _ (ix2 d e) 12 (by show 12 < 16; omega) S1024x128 _ rfl rfl 1536 (by simp [List.take, Shape.size]) (ix2 d ⟨e.val - 1536, by omega⟩)
    (fun b hb => by fin_cases b; exacts [rfl, absurd rfl hb]) (by show 1536 + (e.val - 1536) = e.val; omega)).trans
    (cut128 a 512 _ d _ _ (by show 512 + (e.val - 1536) = e.val / 128 % 3 * 1024 + e.val / 384 * 128 + e.val % 128; omega))

theorem half1_13 (a : Vec Ideal S1024x5248 .f32) (d : Fin 1024) (e : Fin 2048) (h : 1664 ≤ e.val) (h' : e.val < 1792) :
    half1 a (ix2 d e) = a (ix2 d ⟨e.val / 128 % 3 * 1024 + e.val / 384 * 128 + e.val % 128, by omega⟩) :=
  (concatenate_apply_piece (1 : Fin 2) _ _ (ix2 d e) 13 (by show 13 < 16; omega) S1024x128 _ rfl rfl 1664 (by simp [List.take, Shape.size]) (ix2 d ⟨e.val - 1664, by omega⟩)
    (fun b hb => by fin_cases b; exacts [rfl, absurd rfl hb]) (by show 1664 + (e.val - 1664) = e.val; omega)).trans
    (cut128 a 1536 _ d _ _ (by show 1536 + (e.val - 1664) = e.val / 128 % 3 * 1024 + e.val / 384 * 128 + e.val % 128; omega))

theorem half1_14 (a : Vec Ideal S1024x5248 .f32) (d : Fin 1024) (e : Fin 2048) (h : 1792 ≤ e.val) (h' : e.val < 1920) :
    half1 a (ix2 d e) = a (ix2 d ⟨e.val / 128 % 3 * 1024 + e.val / 384 * 128 + e.val % 128, by omega⟩) :=
  (concatenate_apply_piece (1 : Fin 2) _ _ (ix2 d e) 14 (by show 14 < 16; omega) S1024x128 _ rfl rfl 1792 (by simp [List.take, Shape.size]) (ix2 d ⟨e.val - 1792, by omega⟩)
    (fun b hb => by fin_cases b; exacts [rfl, absurd rfl hb]) (by show 1792 + (e.val - 1792) = e.val; omega)).trans
    (cut128 a 2560 _ d _ _ (by show 2560 + (e.val - 1792) = e.val / 128 % 3 * 1024 + e.val / 384 * 128 + e.val % 128; omega))

theorem half1_15 (a : Vec Ideal S1024x5248 .f32) (d : Fin 1024) (e : Fin 2048) (h : 1920 ≤ e.val) (h' : e.val < 2048) :
    half1 a (ix2 d e) = a (ix2 d ⟨e.val / 128 % 3 * 1024 + e.val / 384 * 128 + e.val % 128, by omega⟩) :=
  (concatenate_apply_piece (1 : Fin 2) _ _ (ix2 d e) 15 (by show 15 < 16; omega) S1024x128 _ rfl rfl 1920 (by simp [List.take, Shape.size]) (ix2 d ⟨e.val - 1920, by omega⟩)
    (fun b hb => by fin_cases b; exacts [rfl, absurd rfl hb]) (by show 1920 + (e.val - 1920) = e.val; omega)).trans
    (cut128 a 640 _ d _ _ (by show 640 + (e.val - 1920) = e.val / 128 % 3 * 1024 + e.val / 384 * 128 + e.val % 128; omega))

theorem half1_at (a : Vec Ideal S1024x5248 .f32) (d : Fin 1024) (e : Fin 2048) :
    half1 a (ix2 d e) = a (ix2 d ⟨e.val / 128 % 3 * 1024 + e.val / 384 * 128 + e.val % 128, by omega⟩) := by
  by_cases h0 : e.val < 128
  · exact half1_0 a d e (by omega) h0
  by_cases h1 : e.val < 256
  · exact half1_1 a d e (by omega) h1
  by_cases h2 : e.val < 384
  · exact half1_2 a d e (by omega) h2
  by_cases h3 : e.val < 512
  · exact half1_3 a d e (by omega) h3
  by_cases h4 : e.val < 640
  · exact half1_4 a d e (by omega) h4
  by_cases h5 : e.val < 768
  · exact half1_5 a d e (by omega) h5
  by_cases h6 : e.val < 896
  · exact half1_6 a d e (by omega) h6
  by_cases h7 : e.val < 1024
  · exact half1_7 a d e (by omega) h7
  by_cases h8 : e.val < 1152
  · exact half1_8 a d e (by omega) h8
  by_cases h9 : e.val < 1280
  · exact half1_9 a d e (by omega) h9
  by_cases h10 : e.val < 1408
  · exact half1_10 a d e (by omega) h10
  by_cases h11 : e.val < 1536
  · exact half1_11 a d e (by omega) h11
  by_cases h12 : e.val < 1664
  · exact half1_12 a d e (by omega) h12
  by_cases h13 : e.val < 1792
  · exact half1_13 a d e (by omega) h13
  by_cases h14 : e.val < 1920
  · exact half1_14 a d e (by omega) h14
  exact half1_15 a d e (by omega) (by omega)

theorem half2_0 (a : Vec Ideal S1024x5248 .f32) (d : Fin 1024) (e : Fin 3200) (h : 0 ≤ e.val) (h' : e.val < 128) :
    half2 a (ix2 d e) = a (ix2 d (perm ⟨2048 + e.val, by omega⟩)) :=
  (concatenate_apply_piece (1 : Fin 2) _ _ (ix2 d e) 0 (by show 0 < 10; omega) S1024x128 _ rfl rfl 0 (rfl) (ix2 d ⟨e.val - 0, by omega⟩)
    (fun b hb => by fin_cases b; exacts [rfl, absurd rfl hb]) (by show 0 + (e.val - 0) = e.val; omega)).trans
    (cut128 a 1664 _ d _ _ (by rw [perm_lt _ (by show 2048 + e.val < 3072; omega)]; show 1664 + (e.val - 0) = (2048 + e.val) / 128 % 3 * 1024 + (2048 + e.val) / 384 * 128 + (2048 + e.val) % 128; omega))

theorem half2_1 (a : Vec Ideal S1024x5248 .f32) (d : Fin 1024) (e : Fin 3200) (h : 128 ≤ e.val) (h' : e.val < 256) :
    half2 a (ix2 d e) = a (ix2 d (perm ⟨2048 + e.val, by omega⟩)) :=
  (concatenate_apply_piece (1 : Fin 2) _ _ (ix2 d e) 1 (by show 1 < 10; omega) S1024x128 _ rfl rfl 128 (rfl) (ix2 d ⟨e.val - 128, by omega⟩)
    (fun b hb => by fin_cases b; exacts [rfl, absurd rfl hb]) (by show 128 + (e.val - 128) = e.val; omega)).trans
    (cut128 a 2688 _ d _ _ (by rw [perm_lt _ (by show 2048 + e.val < 3072; omega)]; show 2688 + (e.val - 128) = (2048 + e.val) / 128 % 3 * 1024 + (2048 + e.val) / 384 * 128 + (2048 + e.val) % 128; omega))

theorem half2_2 (a : Vec Ideal S1024x5248 .f32) (d : Fin 1024) (e : Fin 3200) (h : 256 ≤ e.val) (h' : e.val < 384) :
    half2 a (ix2 d e) = a (ix2 d (perm ⟨2048 + e.val, by omega⟩)) :=
  (concatenate_apply_piece (1 : Fin 2) _ _ (ix2 d e) 2 (by show 2 < 10; omega) S1024x128 _ rfl rfl 256 (rfl) (ix2 d ⟨e.val - 256, by omega⟩)
    (fun b hb => by fin_cases b; exacts [rfl, absurd rfl hb]) (by show 256 + (e.val - 256) = e.val; omega)).trans
    (cut128 a 768 _ d _ _ (by rw [perm_lt _ (by show 2048 + e.val < 3072; omega)]; show 768 + (e.val - 256) = (2048 + e.val) / 128 % 3 * 1024 + (2048 + e.val) / 384 * 128 + (2048 + e.val) % 128; omega))

theorem half2_3 (a : Vec Ideal S1024x5248 .f32) (d : Fin 1024) (e : Fin 3200) (h : 384 ≤ e.val) (h' : e.val < 512) :
    half2 a (ix2 d e) = a (ix2 d (perm ⟨2048 + e.val, by omega⟩)) :=
  (concatenate_apply_piece (1 : Fin 2) _ _ (ix2 d e) 3 (by show 3 < 10; omega) S1024x128 _ rfl rfl 384 (rfl) (ix2 d ⟨e.val - 384, by omega⟩)
    (fun b hb => by fin_cases b; exacts [rfl, absurd rfl hb]) (by show 384 + (e.val - 384) = e.val; omega)).trans
    (cut128 a 1792 _ d _ _ (by rw [perm_lt _ (by show 2048 + e.val < 3072; omega)]; show 1792 + (e.val - 384) = (2048 + e.val) / 128 % 3 * 1024 + (2048 + e.val) / 384 * 128 + (2048 + e.val) % 128; omega))

theorem half2_4 (a : Vec Ideal S1024x5248 .f32) (d : Fin 1024) (e : Fin 3200) (h : 512 ≤ e.val) (h' : e.val < 640) :
    half2 a (ix2 d e) = a (ix2 d (perm ⟨2048 + e.val, by omega⟩)) :=
  (concatenate_apply_piece (1 : Fin 2) _ _ (ix2 d e) 4 (by show 4 < 10; omega) S1024x128 _ rfl rfl 512 (rfl) (ix2 d ⟨e.val - 512, by omega⟩)
    (fun b hb => by fin_cases b; exacts [rfl, absurd rfl hb]) (by show 512 + (e.val - 512) = e.val; omega)).trans
    (cut128 a 2816 _ d _ _ (by rw [perm_lt _ (by show 2048 + e.val < 3072; omega)]; show 2816 + (e.val - 512) = (2048 + e.val) / 128 % 3 * 1024 + (2048 + e.val) / 384 * 128 + (2048 + e.val) % 128; omega))

theorem half2_5 (a : Vec Ideal S1024x5248 .f32) (d : Fin 1024) (e : Fin 3200) (h : 640 ≤ e.val) (h' : e.val < 768) :
    half2 a (ix2 d e) = a (ix2 d (perm ⟨2048 + e.val, by omega⟩)) :=
  (concatenate_apply_piece (1 : Fin 2) _ _ (ix2 d e) 5 (by show 5 < 10; omega) S1024x128 _ rfl rfl 640 (rfl) (ix2 d ⟨e.val - 640, by omega⟩)
    (fun b hb => by fin_cases b; exacts [rfl, absurd rfl hb]) (by show 640 + (e.val - 640) = e.val; omega)).trans
    (cut128 a 896 _ d _ _ (by rw [perm_lt _ (by show 2048 + e.val < 3072; omega)]; show 896 + (e.val - 640) = (2048 + e.val) / 128 % 3 * 1024 + (2048 + e.val) / 384 * 128 + (2048 + e.val) % 128; omega))

theorem half2_6 (a : Vec Ideal S1024x5248 .f32) (d : Fin 1024) (e : Fin 3200) (h : 768 ≤ e.val) (h' : e.val < 896) :
    half2 a (ix2 d e) = a (ix2 d (perm ⟨2048 + e.val, by omega⟩)) :=
  (concatenate_apply_piece (1 : Fin 2) _ _ (ix2 d e) 6 (by show 6 < 10; omega) S1024x128 _ rfl rfl 768 (rfl) (ix2 d ⟨e.val - 768, by omega⟩)
    (fun b hb => by fin_cases b; exacts [rfl, absurd rfl hb]) (by show 768 + (e.val - 768) = e.val; omega)).trans
    (cut128 a 1920 _ d _ _ (by rw [perm_lt _ (by show 2048 + e.val < 3072; omega)]; show 1920 + (e.val - 768) = (2048 + e.val) / 128 % 3 * 1024 + (2048 + e.val) / 384 * 128 + (2048 + e.val) % 128; omega))

theorem half2_7 (a : Vec Ideal S1024x5248 .f32) (d : Fin 1024) (e : Fin 3200) (h : 896 ≤ e.val) (h' : e.val < 1024) :
    half2 a (ix2 d e) = a (ix2 d (perm ⟨2048 + e.val, by omega⟩)) :=
  (concatenate_apply_piece (1 : Fin 2) _ _ (ix2 d e) 7 (by show 7 < 10; omega) S1024x128 _ rfl rfl 896 (rfl) (ix2 d ⟨e.val - 896, by omega⟩)
    (fun b hb => by fin_cases b; exacts [rfl, absurd rfl hb]) (by show 896 + (e.val - 896) = e.val; omega)).trans
    (cut128 a 2944 _ d _ _ (by rw [perm_lt _ (by show 2048 + e.val < 3072; omega)]; show 2944 + (e.val - 896) = (2048 + e.val) / 128 % 3 * 1024 + (2048 + e.val) / 384 * 128 + (2048 + e.val) % 128; omega))

theorem half2_8 (a : Vec Ideal S1024x5248 .f32) (d : Fin 1024) (e : Fin 3200) (h : 1024 ≤ e.val) (h' : e.val < 3072) :
    half2 a (ix2 d e) = a (ix2 d (perm ⟨2048 + e.val, by omega⟩)) :=
  (concatenate_apply_piece (1 : Fin 2) _ _ (ix2 d e) 8 (by show 8 < 10; omega) S1024x2048 _ rfl rfl 1024 (rfl) (ix2 d ⟨e.val - 1024, by omega⟩)
    (fun b hb => by fin_cases b; exacts [rfl, absurd rfl hb]) (by show 1024 + (e.val - 1024) = e.val; omega)).trans
    (cut2048 a 3200 _ d _ _ (by rw [perm_mid _ (by show 3072 ≤ 2048 + e.val; omega) (by show 2048 + e.val < 5120; omega)]; show 3200 + (e.val - 1024) = 2048 + e.val + 128; omega))

theorem half2_9 (a : Vec Ideal S1024x5248 .f32) (d : Fin 1024) (e : Fin 3200) (h : 3072 ≤ e.val) (h' : e.val < 3200) :
    half2 a (ix2 d e) = a (ix2 d (perm ⟨2048 + e.val, by omega⟩)) :=
  (concatenate_apply_piece (1 : Fin 2) _ _ (ix2 d e) 9 (by show 9 < 10; omega) S1024x128 _ rfl rfl 3072 (rfl) (ix2 d ⟨e.val - 3072, by omega⟩)
    (fun b hb => by fin_cases b; exacts [rfl, absurd rfl hb]) (by show 3072 + (e.val - 3072) = e.val; omega)).trans
    (cut128 a 3072 _ d _ _ (by rw [perm_ge _ (by show 5120 ≤ 2048 + e.val; omega)]; show 3072 + (e.val - 3072) = 2048 + e.val - 2048; omega))

theorem half2_at (a : Vec Ideal S1024x5248 .f32) (d : Fin 1024) (e : Fin 3200) :
    half2 a (ix2 d e) = a (ix2 d (perm ⟨2048 + e.val, by omega⟩)) := by
  by_cases h0 : e.val < 128
  · exact half2_0 a d e (by omega) h0
  by_cases h1 : e.val < 256
  · exact half2_1 a d e (by omega) h1
  by_cases h2 : e.val < 384
  · exact half2_2 a d e (by omega) h2
  by_cases h3 : e.val < 512
  · exact half2_3 a d e (by omega) h3
  by_cases h4 : e.val < 640
  · exact half2_4 a d e (by omega) h4
  by_cases h5 : e.val < 768
  · exact half2_5 a d e (by omega) h5
  by_cases h6 : e.val < 896
  · exact half2_6 a d e (by omega) h6
  by_cases h7 : e.val < 1024
  · exact half2_7 a d e (by omega) h7
  by_cases h8 : e.val < 3072
  · exact half2_8 a d e (by omega) h8
  exact half2_9 a d e (by omega) (by omega)

theorem w_at (a : Vec Ideal S1024x5248 .f32) (d : Fin 1024) (e : Fin 5248) :
    (truncf .bf16 (concatenate S1024x5248 1 [⟨S1024x2048, half1 a⟩, ⟨S1024x3200, half2 a⟩]
      concatenates_S1024x2048_S1024x3200_S1024x5248_d1) bitsLt_bf16_f32 : FVec Ideal S1024x5248 .bf16) (ix2 d e) = a (ix2 d (perm e)) := by
  have h1 := half1_at a d
  have h2 := half2_at a d
  generalize half1 a = p at h1 ⊢
  generalize half2 a = q at h2 ⊢
  pointwise
  by_cases h : e.val < 2048
  · rw [dif_pos h, h1]
    exact congrArg (fun q => a (ix2 d q)) (Fin.ext (perm_lt e (by omega)).symm)
  · rw [dif_neg h, h2]
    exact congrArg (fun q => a (ix2 d (perm q))) (Fin.ext (by show 2048 + (e.val - 2048) = e.val; omega))

variable (m : (ℓ : Loc nD τ sig) → Buf (Elt Ideal) ℓ) (c : Dev nD)

theorem V_g : V m c main_v32 = (shapeCast S1x1024 (shapeCast S1024 (m ((c : Thread nD τ).loc main_arg1)) shapeCasts_S1x1024_S1024) shapeCasts_S1024_S1x1024 : Vec Ideal S1x1024 .f32) := by
  dsimp only [V]
  after_results
  rfl

theorem V_w : V m c main_v31 = (truncf .bf16 (concatenate S1024x5248 1
    [⟨S1024x2048, half1 (shapeCast S1024x5248 (m ((c : Thread nD τ).loc main_arg2)) shapeCasts_S1x1024x5248_S1024x5248)⟩,
     ⟨S1024x3200, half2 (shapeCast S1024x5248 (m ((c : Thread nD τ).loc main_arg2)) shapeCasts_S1x1024x5248_S1024x5248)⟩]
    concatenates_S1024x2048_S1024x3200_S1024x5248_d1) bitsLt_bf16_f32 : FVec Ideal S1024x5248 .bf16) := by
  dsimp only [V]
  after_results
  rfl

theorem g_apply (k : Fin 1024) : (V m c main_v32 : Vec Ideal S1x1024 .f32) (ix2 0 k) = (m ((c : Thread nD τ).loc main_arg1) : Vec Ideal S1x1024 .f32) (ix2 0 k) := by
  have e (a : Vec Ideal S1x1024 .f32) : shapeCast S1x1024 (shapeCast S1024 a shapeCasts_S1x1024_S1024) shapeCasts_S1024_S1x1024 (ix2 (0 : Fin 1) k)
      = a (ix2 0 k) := by
    pointwise
  rw [V_g]
  exact e _

theorem w_apply (d : Fin 1024) (e : Fin 5248) : (V m c main_v31 : Vec Ideal S1024x5248 .bf16) (ix2 d e)
    = (m ((c : Thread nD τ).loc main_arg2) : Vec Ideal S1x1024x5248 .f32) (ix3 0 d (perm e)) := by
  have h (a : Vec Ideal S1x1024x5248 .f32) : shapeCast S1024x5248 a shapeCasts_S1x1024x5248_S1024x5248 (ix2 d (perm e)) = a (ix3 0 d (perm e)) := by
    pointwise
  rw [V_w]
  exact (w_at _ d e).trans (h _)

theorem idx0 : ∀ t : Fin cfg0.N, win0_0.index t = ![(grid0.coords t 0).val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![(grid0.coords t 0).val, 0] :=
  (by decide +kernel : ∀ t : Fin grid0.N, _)

theorem blk_x (t : Fin cfg0.N) (r : Fin 512) (k : Fin 1024) (R : Fin 16384) (hR : R.val = 512 * (grid0.coords t 0).val + r.val) :
    (iblk m c 0 t : Vec Ideal S512x1024 .f32) (ix2 r k) = (m ((c : Thread nD τ).loc main_arg0) : Vec Ideal S16384x1024 .f32) (ix2 R k) := by
  blk_simp [iblk]
  rw [show (win0_0.blk t).view.emb (ix2 r k) = ix2 R k by blk_ext [idx0]]
  exact congrFun (V_main_arg0 m c) _

theorem blk_g (t : Fin cfg0.N) (k : Fin 1024) :
    (iblk m c 1 t : Vec Ideal S1x1024 .f32) (ix2 0 k) = (m ((c : Thread nD τ).loc main_arg1) : Vec Ideal S1x1024 .f32) (ix2 0 k) := by
  blk_simp [iblk]
  rw [show (win0_1.blk t).view.emb (ix2 0 k) = ix2 (0 : Fin 1) k by blk_ext [idx1]]
  exact g_apply m c k

theorem blk_w (t : Fin cfg0.N) (d : Fin 1024) (e : Fin 5248) : (iblk m c 2 t : Vec Ideal S1024x5248 .bf16) (ix2 d e)
    = (m ((c : Thread nD τ).loc main_arg2) : Vec Ideal S1x1024x5248 .f32) (ix3 0 d (perm e)) := by
  blk_simp [iblk]
  rw [show (win0_2.blk t).view.emb (ix2 d e) = ix2 d e by blk_ext [idx2]]
  exact w_apply m c d e

/-- THE KERNEL'S RESULT ARRAY is the projection. -/
theorem final : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, eq_ix2 (n0 := 512) (n1 := 5248) y]
  have ht : (grid0.coords t 0).val < 32 := (grid0.coords t 0).isLt
  have hy : (y 0).val < 512 := (y 0).isLt
  rw [show (win0_3.blk t).view.emb (ix2 (y 0) (y 1)) = ix2 (⟨512 * (grid0.coords t 0).val + (y 0).val, by omega⟩ : Fin 16384) (y 1) by
      blk_ext [idx3]]
  refine (pay_apply _ _ _ (y 0) (y 1)).trans ?_
  have e0 (k : Fin 1024) := blk_x m c t (y 0) k ⟨512 * (grid0.coords t 0).val + (y 0).val, by omega⟩ rfl
  have e2 (d : Fin 1024) := blk_w m c t d (y 1)
  simp only [e0, e2, blk_g]
  rfl

end Cert.Proj

end
-- ==== Proof.Proj.Ref.lean ====
/- The projection's reference read down to the same result. -/
module

public import proofs.«01_k».proof.Proof.Proj.Arr
public import proofs.«01_k».proof.Proof.Gen.Reference2Ideal.Read

@[expose] public section

set_option maxRecDepth 16384

noncomputable section

namespace Cert.Proj.Ref

open Cert.Even (len epsR nrm prj)
open Cert.Reference2Ideal Cert.Reference2Ideal.Gen Cert.Reference2Ideal.Read Idealize.ShloMosaic Idealize.ShloMosaic.Pointwise

variable (x0 : Vec Ideal S16384x1024 .f32) (x1 : Vec Ideal S1x1024 .f32) (x2 : Vec Ideal S1x1024x5248 .f32) (R : Fin 16384)

/-- The scaled row. -/
theorem v13_at (k : Fin 1024) : val_main_v13 (F := Ideal) x0 x1 (ix2 R k) = nrm (fun j => x0 (ix2 R j)) (fun j => x1 (ix2 0 j)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, nrm]

theorem v15_at (e : Fin 5248) : val_main_v15 (F := Ideal) x0 x1 x2 (ix2 R e)
    = prj (fun j => x0 (ix2 R j)) (fun j => x1 (ix2 0 j)) (fun d => x2 (ix3 0 d e)) := by
  unfold val_main_v15 prj
  simp only [← v13_at]
  generalize val_main_v13 (F := Ideal) x0 x1 = y
  pointwise [val_main_v14]

/-- The three heads' blocks interleaved. -/
theorem v19_at (e : Fin 3072) : val_main_v19 (F := Ideal) x0 x1 x2 (ix2 R e)
    = val_main_v15 (F := Ideal) x0 x1 x2 (ix2 R (perm ⟨e.val, by omega⟩)) := by
  unfold val_main_v19 val_main_v18 val_main_v17 val_main_v16
  generalize val_main_v15 (F := Ideal) x0 x1 x2 = y
  pointwise
  refine congrArg (fun p => y (ix2 R p)) (Fin.ext ?_)
  rw [perm_lt _ (by show e.val < 3072; omega)]

theorem v20_at (e : Fin 2048) : val_main_v20 (F := Ideal) x0 x1 x2 (ix2 R e)
    = val_main_v15 (F := Ideal) x0 x1 x2 (ix2 R (perm ⟨3072 + e.val, by omega⟩)) := by
  unfold val_main_v20
  generalize val_main_v15 (F := Ideal) x0 x1 x2 = y
  pointwise
  refine congrArg (fun p => y (ix2 R p)) (Fin.ext ?_)
  rw [perm_mid _ (by show 3072 ≤ 3072 + e.val; omega) (by show 3072 + e.val < 5120; omega)]
  show 3200 + e.val = 3072 + e.val + 128
  omega

theorem v21_at (e : Fin 128) : val_main_v21 (F := Ideal) x0 x1 x2 (ix2 R e)
    = val_main_v15 (F := Ideal) x0 x1 x2 (ix2 R (perm ⟨5120 + e.val, by omega⟩)) := by
  unfold val_main_v21
  generalize val_main_v15 (F := Ideal) x0 x1 x2 = y
  pointwise
  refine congrArg (fun p => y (ix2 R p)) (Fin.ext ?_)
  rw [perm_ge _ (by show 5120 ≤ 5120 + e.val; omega)]
  show 3072 + e.val = 5120 + e.val - 2048
  omega

theorem v22_at (e : Fin 5248) : val_main_v22 (F := Ideal) x0 x1 x2 (ix2 R e)
    = val_main_v15 (F := Ideal) x0 x1 x2 (ix2 R (perm e)) := by
  have h19 := v19_at x0 x1 x2 R
  have h20 := v20_at x0 x1 x2 R
  have h21 := v21_at x0 x1 x2 R
  unfold val_main_v22
  generalize val_main_v19 (F := Ideal) x0 x1 x2 = y19 at h19 ⊢
  generalize val_main_v20 (F := Ideal) x0 x1 x2 = y20 at h20 ⊢
  generalize val_main_v21 (F := Ideal) x0 x1 x2 = y21 at h21 ⊢
  pointwise
  by_cases h : e.val < 3072
  · rw [dif_pos h, h19]
  rw [dif_neg h]
  by_cases h' : e.val - 3072 < 2048
  · rw [dif_pos h', h20]
    exact congrArg (fun p => val_main_v15 (F := Ideal) x0 x1 x2 (ix2 R (perm p))) (Fin.ext (by show 3072 + (e.val - 3072) = e.val; omega))
  rw [dif_neg h', h21]
  exact congrArg (fun p => val_main_v15 (F := Ideal) x0 x1 x2 (ix2 R (perm p))) (Fin.ext (by show 5120 + (e.val - 3072 - 2048) = e.val; omega))

/-- THE REFERENCE'S RESULT is the projection. -/
theorem val_res : val_main_v22 (F := Ideal) x0 x1 x2 = res x0 x1 x2 := by
  suffices h : ∀ (R : Fin 16384) (e : Fin 5248), val_main_v22 (F := Ideal) x0 x1 x2 (ix2 R e) = res x0 x1 x2 (ix2 R e) by
    funext y
    rw [eq_ix2 (n0 := 16384) (n1 := 5248) y]
    exact h (y 0) (y 1)
  intro R e
  rw [v22_at, v15_at]
  rfl

end Cert.Proj.Ref

end
-- ==== Proof.Odd.Spec.lean ====
/- What the last odd call computes, as plain functions over the extended reals, and the sums over a head written two ways. -/
module

public import proofs.«01_k».proof.Proof.Even.Spec

@[expose] public section

noncomputable section

namespace Cert.Odd

open Cert.Even (nrm silu)
open Idealize.ShloMosaic

/-- A head's width 64, its reciprocal, and the constant under the square root, as the programs write them. -/
abbrev len : EReal := Ideal.ofBits .f32 0x42800000#32
abbrev inv : EReal := Ideal.ofBits .f32 0x3C800000#32
abbrev eps : EReal := Ideal.ofBits .f32 0x3A27C5AC#32

/-- A head less its mean, and the head's normalised entries. -/
def cen (v : Fin 64 → EReal) (k : Fin 64) : EReal := v k - Ideal.div (∑ j, v j) len
def unit (v : Fin 64 → EReal) (k : Fin 64) : EReal := cen v k * Ideal.rsqrt (Ideal.div (∑ j, cen v j * cen v j) len + eps)

/-- The head of column `k`. -/
def head (u : Fin 1024 → EReal) (k : Fin 1024) (j : Fin 64) : EReal := u ⟨k.val / 64 * 64 + j.val, by omega⟩

/-- The two gated branches at a column. -/
def brC (y0 y1 b0 b1 z g b : Fin 1024 → EReal) (k : Fin 1024) : EReal :=
  (unit (head (fun j => y0 j + y1 j) k) ⟨k.val % 64, by omega⟩ * g k + b k + b0 k + b1 k) * silu (z k)
def brD (f z : Fin 512 → EReal) (k : Fin 512) : EReal := f k * silu (z k)

/-- A row of the result before its last scaling, and after it. -/
def mixed (y0 y1 b0 b1 zc : Fin 1024 → EReal) (f zd : Fin 512 → EReal) (h g b : Fin 1024 → EReal) (W : Fin 1536 → Fin 1024 → EReal)
    (d : Fin 1024) : EReal :=
  h d + ∑ k : Fin 1024, brC y0 y1 b0 b1 zc g b k * W ⟨k.val, by omega⟩ d + ∑ k : Fin 512, brD f zd k * W ⟨1024 + k.val, by omega⟩ d
def row (y0 y1 b0 b1 zc : Fin 1024 → EReal) (f zd : Fin 512 → EReal) (h g b : Fin 1024 → EReal) (W : Fin 1536 → Fin 1024 → EReal)
    (fg : Fin 1024 → EReal) (d : Fin 1024) : EReal :=
  nrm (mixed y0 y1 b0 b1 zc f zd h g b W) fg d

theorem len_eq : len = ((64 : ℝ) : EReal) := by
  simp [len, Ideal.ofBits, Ideal.ieee, -EReal.coe_mul]; norm_num
theorem inv_eq : inv = ((1 / 64 : ℝ) : EReal) := by
  simp [inv, Ideal.ofBits, Ideal.ieee, -EReal.coe_mul]; norm_num
theorem eps_eq : ∃ e : ℝ, eps = (e : EReal) :=
  ⟨_, by simp [eps, Ideal.ofBits, Ideal.ieee, -EReal.coe_mul]; rfl⟩

theorem mul_inv (x : EReal) : x * inv = Ideal.div x len := by
  rw [len_eq, inv_eq, Ideal.div_coe (by norm_num)]

/-- The matrix of ones on the two diagonal blocks of 64. -/
def ones (j l : Fin 128) : EReal := if j.val / 64 = l.val / 64 then 1 else 0

/-- A product with it is the sum over the column's half. -/
theorem sum_ones (f : Fin 128 → EReal) (l : Fin 128) : ∑ j, f j * ones j l = ∑ i : Fin 64, f ⟨l.val / 64 * 64 + i.val, by omega⟩ := by
  rw [Fin.sum_univ_add (a := 64) (b := 64)]
  have hl : l.val / 64 = 0 ∨ l.val / 64 = 1 := by omega
  rcases hl with h | h
  · have h1 : ∀ i : Fin 64, ones (Fin.castAdd 64 i) l = 1 := fun i => if_pos (by show i.val / 64 = _; omega)
    have h2 : ∀ i : Fin 64, ones (Fin.natAdd 64 i) l = 0 := fun i => if_neg (by show ¬ (64 + i.val) / 64 = _; omega)
    simp only [h1, h2, mul_one, mul_zero, Finset.sum_const_zero, add_zero]
    exact Finset.sum_congr rfl fun i _ => congrArg f (Fin.ext (by show i.val = l.val / 64 * 64 + i.val; omega))
  · have h1 : ∀ i : Fin 64, ones (Fin.castAdd 64 i) l = 0 := fun i => if_neg (by show ¬ i.val / 64 = _; omega)
    have h2 : ∀ i : Fin 64, ones (Fin.natAdd 64 i) l = 1 := fun i => if_pos (by show (64 + i.val) / 64 = _; omega)
    simp only [h1, h2, mul_one, mul_zero, Finset.sum_const_zero, zero_add]
    exact Finset.sum_congr rfl fun i _ => congrArg f (Fin.ext (by show 64 + i.val = l.val / 64 * 64 + i.val; omega))

/-- The same with the remainder of each entry added, as the kernel takes a head's mean. -/
def cen' (v : Fin 64 → EReal) (k : Fin 64) : EReal := v k - (∑ j, v j + ∑ j, (v j - v j)) * inv
def unit' (v : Fin 64 → EReal) (k : Fin 64) : EReal := cen' v k * Ideal.rsqrt ((∑ j, cen' v j * cen' v j) * inv + eps)

theorem sum_bot {n : ℕ} (f : Fin n → EReal) (i : Fin n) (h : f i = ⊥) : ∑ j, f j = ⊥ := by
  rw [← Finset.add_sum_erase _ _ (Finset.mem_univ i), h, EReal.bot_add]

theorem sum_top {n : ℕ} (f : Fin n → EReal) (i : Fin n) (h : f i = ⊤) (hb : ∀ j, f j ≠ ⊥) : ∑ j, f j = ⊤ := by
  rw [← Finset.add_sum_erase _ _ (Finset.mem_univ i), h]
  refine EReal.top_add_of_ne_bot ?_
  refine Finset.sum_induction f (fun x => x ≠ ⊥) (fun a b ha hb => ?_) EReal.zero_ne_bot (fun j _ => hb j)
  exact fun h => (EReal.add_eq_bot_iff.mp h).elim ha hb

/-- A head whose centred entries are all infinite has normalised entries zero. -/
theorem rsqrt_inf (f : Fin 64 → EReal) (hf : ∀ j, f j = ⊤ ∨ f j = ⊥) : Ideal.rsqrt (Ideal.div (∑ j, f j * f j) len + eps) = 0 := by
  have hs : ∀ j, f j * f j = ⊤ := fun j => by
    rcases hf j with h | h <;> rw [h] <;> rfl
  have h : ∑ j, f j * f j = ⊤ := sum_top _ 0 (hs 0) fun j => by rw [hs j]; exact top_ne_bot
  obtain ⟨e, he⟩ := eps_eq
  rw [h, len_eq, Ideal.div_coe (by norm_num), EReal.top_mul_coe_of_pos (by norm_num), he, EReal.top_add_coe]
  rfl

/-- The two ways agree: on finite heads the remainders vanish, on the others both give zero. -/
theorem unit_eq (v : Fin 64 → EReal) (k : Fin 64) : unit' v k = unit v k := by
  by_cases hv : ∃ i, v i = ⊤ ∨ v i = ⊥
  · obtain ⟨i, hi⟩ := hv
    have hr : ∑ j, (v j - v j) = ⊥ := sum_bot _ i (by rcases hi with h | h <;> rw [h] <;> rfl)
    have h' : ∀ j, cen' v j = ⊤ ∨ cen' v j = ⊥ := fun j => by
      unfold cen'
      rw [hr, EReal.add_bot, inv_eq, EReal.bot_mul_coe_of_pos (by norm_num)]
      induction v j using EReal.rec with
      | bot => exact Or.inr rfl
      | top => exact Or.inl rfl
      | coe x => exact Or.inl rfl
    have h : ∀ j, cen v j = ⊤ ∨ cen v j = ⊥ := fun j => by
      unfold cen
      rw [← mul_inv, inv_eq]
      by_cases hb : ∃ i, v i = ⊥
      · obtain ⟨i, hb⟩ := hb
        rw [sum_bot v i hb, EReal.bot_mul_coe_of_pos (by norm_num)]
        induction v j using EReal.rec with
        | bot => exact Or.inr rfl
        | top => exact Or.inl rfl
        | coe x => exact Or.inl rfl
      · have hb' : ∀ j, v j ≠ ⊥ := fun j hj => hb ⟨j, hj⟩
        rw [sum_top v i (hi.resolve_right (hb' i)) hb', EReal.top_mul_coe_of_pos (by norm_num)]
        induction v j using EReal.rec with
        | bot => exact Or.inr rfl
        | top => exact Or.inr rfl
        | coe x => exact Or.inr rfl
    unfold unit' unit
    rw [mul_inv, rsqrt_inf _ h', rsqrt_inf _ h, mul_zero, mul_zero]
  · have h : ∀ j, v j - v j = 0 := fun j => by
      obtain ⟨x, hx⟩ : ∃ x : ℝ, v j = (x : EReal) := by
        have hj : ¬ (v j = ⊤ ∨ v j = ⊥) := fun h => hv ⟨j, h⟩
        exact ⟨(v j).toReal, (EReal.coe_toReal (fun h => hj (Or.inl h)) (fun h => hj (Or.inr h))).symm⟩
      rw [hx, ← EReal.coe_sub, sub_self, EReal.coe_zero]
    have hc : ∀ j, cen' v j = cen v j := fun j => by
      unfold cen' cen
      simp only [h, Finset.sum_const_zero, add_zero, mul_inv]
    unfold unit' unit
    simp only [hc, mul_inv]

end Cert.Odd

end
-- ==== Proof.Odd.Read.lean ====
/- What the last odd call's body leaves in its result block: its one store's value. -/
module

public import proofs.«01_k».proof.Proof.Odd.Spec
public import proofs.«01_k».proof.Proof.Gen.Kernel3Ideal.Value

@[expose] public section

set_option maxRecDepth 16384

noncomputable section

namespace Cert.Odd

open Cert.Kernel3Ideal Cert.Kernel3Ideal.Gen Idealize.ShloMosaic Idealize.ShloMosaic.TcCoe Idealize.SL.Sem

/-- A zero accumulator. -/
def zacc : FVec Ideal S512x128 .f32 := constant S512x128 .f32 0x00000000#32

variable (a0 a1 a2 a3 : Vec Ideal S512x1024 .bf16) (a4 : Vec Ideal S512x1024 .f32) (a5 a6 : Vec Ideal S512x512 .f32)
  (a7 : Vec Ideal S512x1024 .f32) (a8 a9 : Vec Ideal S1x1024 .f32) (a10 : Vec Ideal S128x128 .bf16) (w0 : Vec Ideal S1024x1024 .bf16)
  (w1 : Vec Ideal S512x1024 .bf16) (a12 : Vec Ideal S1x1024 .f32)

/-- The centred rows, and the gated first branch, over the blocks read. -/
def vcen : FVec Ideal S512x1024 .f32 :=
  k0_pay10 (F := Ideal) (k0_pay1 a10) (k0_pay2 a0 a1) (k0_pay3 a10 a0 a1) (k0_pay4 a10 a0 a1) (k0_pay5 a10 a0 a1) (k0_pay6 a10 a0 a1) (k0_pay8 a0 a1) (k0_pay9 a0 a1) zacc
def vbrC : FVec Ideal S512x1024 .f32 :=
  k0_pay17 (F := Ideal) (k0_pay1 a10) (vcen a0 a1 a10)
    (k0_pay11 (k0_pay1 a10) (k0_pay2 a0 a1) (k0_pay3 a10 a0 a1) (k0_pay4 a10 a0 a1) (k0_pay5 a10 a0 a1) (k0_pay6 a10 a0 a1) (k0_pay8 a0 a1) (k0_pay9 a0 a1) zacc)
    (k0_pay12 (k0_pay1 a10) (k0_pay2 a0 a1) (k0_pay3 a10 a0 a1) (k0_pay4 a10 a0 a1) (k0_pay5 a10 a0 a1) (k0_pay6 a10 a0 a1) (k0_pay8 a0 a1) (k0_pay9 a0 a1) zacc)
    (k0_pay13 (k0_pay1 a10) (k0_pay2 a0 a1) (k0_pay3 a10 a0 a1) (k0_pay4 a10 a0 a1) (k0_pay5 a10 a0 a1) (k0_pay6 a10 a0 a1) (k0_pay8 a0 a1) (k0_pay9 a0 a1) zacc)
    (k0_pay14 (k0_pay1 a10) (k0_pay2 a0 a1) (k0_pay3 a10 a0 a1) (k0_pay4 a10 a0 a1) (k0_pay5 a10 a0 a1) (k0_pay6 a10 a0 a1) (k0_pay8 a0 a1) (k0_pay9 a0 a1) zacc)
    (k0_pay15 (k0_pay1 a10) (k0_pay2 a0 a1) (k0_pay3 a10 a0 a1) (k0_pay4 a10 a0 a1) (k0_pay5 a10 a0 a1) (k0_pay6 a10 a0 a1) (k0_pay8 a0 a1) (k0_pay9 a0 a1) zacc)
    (k0_pay16 (k0_pay1 a10) (k0_pay2 a0 a1) (k0_pay3 a10 a0 a1) (k0_pay4 a10 a0 a1) (k0_pay5 a10 a0 a1) (k0_pay6 a10 a0 a1) (k0_pay8 a0 a1) (k0_pay9 a0 a1) zacc)
    a8 a9 a2 a3 a4
def body : FVec Ideal S512x1024 .f32 := k0_pay18 (F := Ideal) (vbrC a0 a1 a2 a3 a4 a8 a9 a10) a5 a6 a7 w0 w1 a12

theorem hz : (![0, 0] : Fin 2 → Nat) = fun _ => 0 := by
  funext a
  fin_cases a <;> rfl

theorem out_ld (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x128 .bf16) (harg11 : arg11.IsWhole) (arg12 : Memref sig .tc .vmem S1536x1024 .bf16) (harg12 : arg12.IsWhole) (arg13 : Memref sig .tc .vmem S1x1024 .f32) (harg13 : arg13.IsWhole) (arg14 : Memref sig .tc .vmem S512x1024 .f32) (harg14 : arg14.IsWhole)
    (x0 : Vec Ideal S512x1024 .bf16) (x1 : Vec Ideal S512x1024 .bf16) (x2 : Vec Ideal S512x1024 .bf16) (x3 : Vec Ideal S512x1024 .bf16) (x4 : Vec Ideal S512x1024 .f32) (x5 : Vec Ideal S512x512 .f32) (x6 : Vec Ideal S512x512 .f32) (x7 : Vec Ideal S512x1024 .f32) (x8 : Vec Ideal S1x1024 .f32) (x9 : Vec Ideal S1x1024 .f32) (x10 : Vec Ideal S128x128 .bf16) (x11 : Vec Ideal S1536x1024 .bf16) (x12 : Vec Ideal S1x1024 .f32)  :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = body (View.ld x0 (Rect.unit (s := S512x1024) ![0, 0] S512x1024.size inb_S512x1024_S512x1024_0_0))
          (View.ld x1 (Rect.unit (s := S512x1024) ![0, 0] S512x1024.size inb_S512x1024_S512x1024_0_0))
          (View.ld x2 (Rect.unit (s := S512x1024) ![0, 0] S512x1024.size inb_S512x1024_S512x1024_0_0))
          (View.ld x3 (Rect.unit (s := S512x1024) ![0, 0] S512x1024.size inb_S512x1024_S512x1024_0_0))
          (View.ld x4 (Rect.unit (s := S512x1024) ![0, 0] S512x1024.size inb_S512x1024_S512x1024_0_0))
          (View.ld x5 (Rect.unit (s := S512x512) ![0, 0] S512x512.size inb_S512x512_S512x512_0_0))
          (View.ld x6 (Rect.unit (s := S512x512) ![0, 0] S512x512.size inb_S512x512_S512x512_0_0))
          (View.ld x7 (Rect.unit (s := S512x1024) ![0, 0] S512x1024.size inb_S512x1024_S512x1024_0_0))
          (View.ld x8 (Rect.unit (s := S1x1024) ![0, 0] S1x1024.size inb_S1x1024_S1x1024_0_0))
          (View.ld x9 (Rect.unit (s := S1x1024) ![0, 0] S1x1024.size inb_S1x1024_S1x1024_0_0))
          (View.ld x10 (Rect.unit (s := S128x128) ![0, 0] S128x128.size inb_S128x128_S128x128_0_0))
          (View.ld x11 (Rect.unit (s := S1536x1024) ![0, 0] S1024x1024.size inb_S1536x1024_S1024x1024_0_0))
          (View.ld x11 (Rect.unit (s := S1536x1024) ![1024, 0] S512x1024.size inb_S1536x1024_S512x1024_1024_0))
          (View.ld x12 (Rect.unit (s := S1x1024) ![0, 0] S1x1024.size inb_S1x1024_S1x1024_0_0)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rfl

theorem out_eq (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x128 .bf16) (harg11 : arg11.IsWhole) (arg12 : Memref sig .tc .vmem S1536x1024 .bf16) (harg12 : arg12.IsWhole) (arg13 : Memref sig .tc .vmem S1x1024 .f32) (harg13 : arg13.IsWhole) (arg14 : Memref sig .tc .vmem S512x1024 .f32) (harg14 : arg14.IsWhole)
    (x0 : Vec Ideal S512x1024 .bf16) (x1 : Vec Ideal S512x1024 .bf16) (x2 : Vec Ideal S512x1024 .bf16) (x3 : Vec Ideal S512x1024 .bf16) (x4 : Vec Ideal S512x1024 .f32) (x5 : Vec Ideal S512x512 .f32) (x6 : Vec Ideal S512x512 .f32) (x7 : Vec Ideal S512x1024 .f32) (x8 : Vec Ideal S1x1024 .f32) (x9 : Vec Ideal S1x1024 .f32) (x10 : Vec Ideal S128x128 .bf16) (x11 : Vec Ideal S1536x1024 .bf16) (x12 : Vec Ideal S1x1024 .f32)  :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = body x0 x1 x2 x3 x4 x5 x6 x7 x8 x9 x10
          (View.ld x11 (Rect.unit (s := S1536x1024) ![0, 0] S1024x1024.size inb_S1536x1024_S1024x1024_0_0))
          (View.ld x11 (Rect.unit (s := S1536x1024) ![1024, 0] S512x1024.size inb_S1536x1024_S512x1024_1024_0))
          x12 := by
  rw [out_ld, View.ld_unit_zero hz _ x0, View.ld_unit_zero hz _ x1, View.ld_unit_zero hz _ x2, View.ld_unit_zero hz _ x3, View.ld_unit_zero hz _ x4,
    View.ld_unit_zero hz _ x5, View.ld_unit_zero hz _ x6, View.ld_unit_zero hz _ x7, View.ld_unit_zero hz _ x8, View.ld_unit_zero hz _ x9,
    View.ld_unit_zero hz _ x10, View.ld_unit_zero hz _ x12]

/-- The two parts of the output weight read at an index. -/
theorem w0_at (x : Vec Ideal S1536x1024 .bf16) (k d : Fin 1024) :
    View.ld x (Rect.unit (s := S1536x1024) ![0, 0] S1024x1024.size inb_S1536x1024_S1024x1024_0_0) (ix2 k d)
      = x (ix2 (⟨k.val, by omega⟩ : Fin 1536) d) := by
  refine congrArg x (funext fun a => Fin.ext ?_)
  fin_cases a
  · show 0 + 1 * k.val = k.val
    omega
  · show 0 + 1 * d.val = d.val
    omega

theorem w1_at (x : Vec Ideal S1536x1024 .bf16) (k : Fin 512) (d : Fin 1024) :
    View.ld x (Rect.unit (s := S1536x1024) ![1024, 0] S512x1024.size inb_S1536x1024_S512x1024_1024_0) (ix2 k d)
      = x (ix2 (⟨1024 + k.val, by omega⟩ : Fin 1536) d) := by
  refine congrArg x (funext fun a => Fin.ext ?_)
  fin_cases a
  · show 1024 + 1 * k.val = 1024 + k.val
    omega
  · show 0 + 1 * d.val = d.val
    omega

end Cert.Odd

end
-- ==== Proof.Odd.Blk.lean ====
/- The last odd call's body at an index: the eight products with the block-diagonal matrix as sums over a head, and the row after them. -/
module

public import proofs.«01_k».proof.Proof.Odd.Read

@[expose] public section

set_option maxRecDepth 16384

noncomputable section

namespace Cert.Odd

open Cert.Even (nrm silu)
open Cert.Kernel3Ideal Cert.Kernel3Ideal.Gen Idealize.ShloMosaic Idealize.ShloMosaic.TcCoe Idealize.SL.Sem Idealize.ShloMosaic.Pointwise

/-- Column `k`'s entry of the product of its group of 128 columns with a 128 by 128 matrix. -/
def grp (v : FVec Ideal S512x1024 .f32) (bd : FVec Ideal S128x128 .bf16) (r : Fin 512) (k : Fin 1024) : EReal :=
  ∑ j : Fin 128, v (ix2 r (⟨k.val / 128 * 128 + j.val, by omega⟩ : Fin 1024)) * bd (ix2 j (⟨k.val % 128, by omega⟩ : Fin 128))

theorem grp_of (v : FVec Ideal S512x1024 .f32) (bd : FVec Ideal S128x128 .bf16) (r : Fin 512) (k : Fin 1024) (p : Fin 128 → Fin 1024) (q : Fin 128)
    (hp : ∀ j, (p j).val = k.val / 128 * 128 + j.val) (hq : q.val = k.val % 128) : ∑ j : Fin 128, v (ix2 r (p j)) * bd (ix2 j q) = grp v bd r k := by
  have e' : q = (⟨k.val % 128, by omega⟩ : Fin 128) := Fin.ext hq
  refine Finset.sum_congr rfl fun j _ => ?_
  rw [show p j = (⟨k.val / 128 * 128 + j.val, by omega⟩ : Fin 1024) from Fin.ext (hp j)]
  exact congrArg (fun q => v _ * bd (ix2 j q)) e'

variable (a0 a1 a2 a3 : Vec Ideal S512x1024 .bf16) (a4 : Vec Ideal S512x1024 .f32) (a5 a6 : Vec Ideal S512x512 .f32)
  (a7 : Vec Ideal S512x1024 .f32) (a8 a9 : Vec Ideal S1x1024 .f32) (a10 : Vec Ideal S128x128 .bf16) (w0 : Vec Ideal S1024x1024 .bf16)
  (w1 : Vec Ideal S512x1024 .bf16) (a12 : Vec Ideal S1x1024 .f32) (r : Fin 512)

theorem silu_sub (z : EReal) : z * Ideal.div 1 (1 + Ideal.exp (0 - z)) = silu z := by
  rw [zero_sub]
  rfl

theorem pay1_eq : k0_pay1 (F := Ideal) a10 = a10 := by
  unfold k0_pay1
  exact shapeCast_self _ _

theorem pay2_at (k : Fin 1024) : k0_pay2 (F := Ideal) a0 a1 (ix2 r k) = a0 (ix2 r k) + a1 (ix2 r k) := by
  pointwise [k0_pay2]

theorem vcen_at (k : Fin 1024) : vcen a0 a1 a10 (ix2 r k)
    = k0_pay2 (F := Ideal) a0 a1 (ix2 r k)
      - (grp (k0_pay2 a0 a1) a10 r k + grp (fun i => k0_pay2 (F := Ideal) a0 a1 i - k0_pay2 (F := Ideal) a0 a1 i) a10 r k) * inv := by
  unfold vcen k0_pay9 k0_pay8 k0_pay7 k0_pay6 k0_pay5 k0_pay4 k0_pay3
  rw [pay1_eq]
  generalize k0_pay2 (F := Ideal) a0 a1 = y
  pointwise [k0_pay10, zacc]
  refine congrArg (fun s => y (ix2 r k) - s * inv) ?_
  have hk := k.isLt
  split_ifs
  all_goals
    refine congrArg₂ (fun p q : EReal => p + q) (grp_of y a10 r k _ _ (fun j => ?_) ?_) (grp_of (fun i => y i - y i) a10 r k _ _ (fun j => ?_) ?_)
    all_goals (dsimp only; omega)

theorem sq_eq : k0_pay11 (F := Ideal) (k0_pay1 a10) (k0_pay2 a0 a1) (k0_pay3 a10 a0 a1) (k0_pay4 a10 a0 a1) (k0_pay5 a10 a0 a1) (k0_pay6 a10 a0 a1) (k0_pay8 a0 a1) (k0_pay9 a0 a1) zacc
    = fun i => vcen a0 a1 a10 i * vcen a0 a1 a10 i := rfl

theorem vbrC_at (k : Fin 1024) : vbrC a0 a1 a2 a3 a4 a8 a9 a10 (ix2 r k)
    = (vcen a0 a1 a10 (ix2 r k) * Ideal.rsqrt (grp (fun i => vcen a0 a1 a10 i * vcen a0 a1 a10 i) a10 r k * inv + eps) * a8 (ix2 0 k)
        + a9 (ix2 0 k) + a2 (ix2 r k) + a3 (ix2 r k)) * silu (a4 (ix2 r k)) := by
  unfold vbrC k0_pay16 k0_pay15 k0_pay14 k0_pay13 k0_pay12
  rw [sq_eq, pay1_eq]
  generalize vcen a0 a1 a10 = y
  generalize hq : (fun i => y i * y i : FVec Ideal S512x1024 .f32) = q
  pointwise [k0_pay17]
  simp only [silu_sub]
  refine congrArg (fun s => (y (ix2 r k) * Ideal.rsqrt (s * inv + eps) * a8 (ix2 0 k) + a9 (ix2 0 k) + a2 (ix2 r k) + a3 (ix2 r k))
    * silu (a4 (ix2 r k))) ?_
  have hk := k.isLt
  split_ifs
  all_goals
    refine grp_of q a10 r k _ _ (fun j => ?_) ?_
    all_goals (dsimp only; omega)

theorem body_at (d : Fin 1024) : body a0 a1 a2 a3 a4 a5 a6 a7 a8 a9 a10 w0 w1 a12 (ix2 r d)
    = nrm (fun d => a7 (ix2 r d) + ∑ k : Fin 1024, vbrC a0 a1 a2 a3 a4 a8 a9 a10 (ix2 r k) * w0 (ix2 k d)
        + ∑ k : Fin 512, brD (fun k => a5 (ix2 r k)) (fun k => a6 (ix2 r k)) k * w1 (ix2 k d)) (fun d => a12 (ix2 0 d)) d := by
  unfold body
  generalize vbrC a0 a1 a2 a3 a4 a8 a9 a10 = y
  pointwise [k0_pay18, brD, nrm]
  simp only [silu_sub]

/-- With the block-diagonal ones: the sum over the column's head. -/
theorem grp_ones (v : FVec Ideal S512x1024 .f32) (hbd : ∀ j l : Fin 128, a10 (ix2 j l) = ones j l) (k : Fin 1024) :
    grp v a10 r k = ∑ i : Fin 64, v (ix2 r (⟨k.val / 64 * 64 + i.val, by omega⟩ : Fin 1024)) := by
  unfold grp
  simp only [hbd]
  rw [sum_ones (fun j => v (ix2 r (⟨k.val / 128 * 128 + j.val, by omega⟩ : Fin 1024)))]
  refine Finset.sum_congr rfl fun i _ => congrArg (fun p => v (ix2 r p)) (Fin.ext ?_)
  show k.val / 128 * 128 + (k.val % 128 / 64 * 64 + i.val) = k.val / 64 * 64 + i.val
  omega

theorem vcen_ones (hbd : ∀ j l : Fin 128, a10 (ix2 j l) = ones j l) (k : Fin 1024) (i : Fin 64) (p : Fin 1024) (hp : p.val = k.val / 64 * 64 + i.val) :
    vcen a0 a1 a10 (ix2 r p) = cen' (head (fun j => a0 (ix2 r j) + a1 (ix2 r j)) k) i := by
  rw [vcen_at, grp_ones _ _ _ hbd, grp_ones _ _ _ hbd]
  have e : ∀ j : Fin 64, (⟨p.val / 64 * 64 + j.val, by omega⟩ : Fin 1024) = ⟨k.val / 64 * 64 + j.val, by omega⟩ := fun j => Fin.ext (by
    show p.val / 64 * 64 + j.val = k.val / 64 * 64 + j.val
    omega)
  have e' : p = ⟨k.val / 64 * 64 + i.val, by omega⟩ := Fin.ext hp
  simp only [e, pay2_at]
  rw [e']
  rfl

theorem vbrC_ones (hbd : ∀ j l : Fin 128, a10 (ix2 j l) = ones j l) (k : Fin 1024) : vbrC a0 a1 a2 a3 a4 a8 a9 a10 (ix2 r k)
    = brC (fun j => a0 (ix2 r j)) (fun j => a1 (ix2 r j)) (fun j => a2 (ix2 r j)) (fun j => a3 (ix2 r j)) (fun j => a4 (ix2 r j))
        (fun j => a8 (ix2 0 j)) (fun j => a9 (ix2 0 j)) k := by
  rw [vbrC_at, grp_ones _ _ _ hbd, vcen_ones a0 a1 a10 r hbd k ⟨k.val % 64, by omega⟩ k (by show k.val = k.val / 64 * 64 + k.val % 64; omega)]
  simp only [fun i : Fin 64 => vcen_ones a0 a1 a10 r hbd k i ⟨k.val / 64 * 64 + i.val, by omega⟩ rfl]
  unfold brC
  rw [← unit_eq]
  rfl

/-- THE BODY'S ROW, given the matrix of ones and the weight behind the two parts read. -/
theorem body_row (hbd : ∀ j l : Fin 128, a10 (ix2 j l) = ones j l) (W : Fin 1536 → Fin 1024 → EReal)
    (h0 : ∀ k d : Fin 1024, w0 (ix2 k d) = W ⟨k.val, by omega⟩ d) (h1 : ∀ (k : Fin 512) (d : Fin 1024), w1 (ix2 k d) = W ⟨1024 + k.val, by omega⟩ d)
    (d : Fin 1024) : body a0 a1 a2 a3 a4 a5 a6 a7 a8 a9 a10 w0 w1 a12 (ix2 r d)
    = row (fun j => a0 (ix2 r j)) (fun j => a1 (ix2 r j)) (fun j => a2 (ix2 r j)) (fun j => a3 (ix2 r j)) (fun j => a4 (ix2 r j))
        (fun j => a5 (ix2 r j)) (fun j => a6 (ix2 r j)) (fun j => a7 (ix2 r j)) (fun j => a8 (ix2 0 j)) (fun j => a9 (ix2 0 j)) W
        (fun j => a12 (ix2 0 j)) d := by
  rw [body_at]
  simp only [vbrC_ones _ _ _ _ _ _ _ _ r hbd, h0, h1]
  rfl

end Cert.Odd

end
-- ==== Proof.Odd.Arr.lean ====
/- The last odd call's kernel run: the arrays its windows read, and the array it leaves. -/
module

public import proofs.«01_k».proof.Proof.Odd.Blk
public import Idealize.ShloMosaic.Lib.Pipeline.ValueKit.Geometry

@[expose] public section

set_option maxRecDepth 16384

noncomputable section

namespace Cert.Odd

open Cert.Kernel3Ideal Cert.Kernel3Ideal.Gen Idealize.ShloMosaic Idealize.ShloMosaic.TcCoe Idealize.SL.Sem
open Idealize.ShloMosaic.Pipeline (Dat)

/-- The whole result: every token's row. -/
def res (y0 y1 b0 b1 : Vec Ideal S16384x1024 .bf16) (p : Vec Ideal S16384x5248 .f32) (f : Vec Ideal S16384x512 .f32) (h : Vec Ideal S16384x1024 .f32)
    (g b : Vec Ideal S1x1024 .f32) (w : Vec Ideal S1x1536x1024 .f32) (fg : Vec Ideal S1024 .f32) : FVec Ideal S16384x1024 .f32 :=
  fun i => row (fun k => y0 (ix2 (i 0) k)) (fun k => y1 (ix2 (i 0) k)) (fun k => b0 (ix2 (i 0) k)) (fun k => b1 (ix2 (i 0) k))
    (fun k => p (ix2 (i 0) (⟨3072 + k.val, by omega⟩ : Fin 5248))) (fun k => f (ix2 (i 0) k))
    (fun k => p (ix2 (i 0) (⟨4608 + k.val, by omega⟩ : Fin 5248))) (fun k => h (ix2 (i 0) k))
    (fun k => g (ix2 0 k)) (fun k => b (ix2 0 k)) (fun k d => w (ix3 0 k d)) (fun k => fg (ix1 k)) (i 1)

/-- The matrix of ones as the host builds it: one where the two quotients by 64 agree. -/
def half : IVec S128 32 := Host.divsi (iotaInDim S128 32 0) (broadcastInDim S128 ![] bcast_S_S128 (constantI S_ 32 64#32))
def bdm : FVec Ideal S128x128 .bf16 := uitofp .bf16 (cmpi .eq
  (broadcastInDim S128x128 ![0, 1] bcast_S128x1_S128x128_0_1 (broadcastInDim S128x1 ![0] bcast_S128_S128x1_0 half))
  (broadcastInDim S128x128 ![0, 1] bcast_S1x128_S128x128_0_1 (broadcastInDim S1x128 ![1] bcast_S128_S1x128_1 half)))

theorem half_at (j : Fin 128) : half (ix1 j) = BitVec.ofNat 32 (j.val / 64) := by
  revert j
  decide +kernel

theorem bdm_at (j l : Fin 128) : bdm (ix2 j l) = ones j l := by
  have hj := half_at j
  have hl := half_at l
  unfold bdm
  generalize half = q at hj hl ⊢
  pointwise
  rw [hj, hl]
  have hc : ∀ a b : Fin 2, IntOp.cmpi CmpIPredicate.eq (BitVec.ofNat 32 a.val) (BitVec.ofNat 32 b.val) = if a.val = b.val then 1#1 else 0#1 := by
    decide +kernel
  rw [hc ⟨j.val / 64, by omega⟩ ⟨l.val / 64, by omega⟩]
  unfold ones
  by_cases h : j.val / 64 = l.val / 64
  · rw [if_pos h, if_pos h]
    show (((1#1 : BitVec 1).toNat : ℝ) : EReal) = 1
    simp
  · rw [if_neg h, if_neg h]
    show (((0#1 : BitVec 1).toNat : ℝ) : EReal) = 0
    simp

variable (m : (ℓ : Loc nD τ sig) → Buf (Elt Ideal) ℓ) (c : Dev nD)

theorem V_bd : V m c main_v12 = bdm := by
  dsimp only [V]
  after_results
  rfl

theorem V_g : V m c main_v13 = (shapeCast S1x1024 (shapeCast S1024 (m ((c : Thread nD τ).loc main_arg7)) shapeCasts_S1x1024_S1024) shapeCasts_S1024_S1x1024 : Vec Ideal S1x1024 .f32) := by
  dsimp only [V]
  after_results
  rfl

theorem V_b : V m c main_v14 = (shapeCast S1x1024 (shapeCast S1024 (m ((c : Thread nD τ).loc main_arg8)) shapeCasts_S1x1024_S1024) shapeCasts_S1024_S1x1024 : Vec Ideal S1x1024 .f32) := by
  dsimp only [V]
  after_results
  rfl

theorem V_fg : V m c main_v15 = (shapeCast S1x1024 (m ((c : Thread nD τ).loc main_arg10)) shapeCasts_S1024_S1x1024 : Vec Ideal S1x1024 .f32) := by
  dsimp only [V]
  after_results
  rfl

theorem V_w : V m c main_v3 = (truncf .bf16 (shapeCast S1536x1024 (m ((c : Thread nD τ).loc main_arg9)) shapeCasts_S1x1536x1024_S1536x1024) bitsLt_bf16_f32 : FVec Ideal S1536x1024 .bf16) := by
  dsimp only [V]
  after_results
  rfl

theorem two_casts (a : Vec Ideal S1x1024 .f32) (k : Fin 1024) :
    shapeCast S1x1024 (shapeCast S1024 a shapeCasts_S1x1024_S1024) shapeCasts_S1024_S1x1024 (ix2 (0 : Fin 1) k) = a (ix2 0 k) := by
  pointwise

theorem fg_cast (a : Vec Ideal S1024 .f32) (k : Fin 1024) : shapeCast S1x1024 a shapeCasts_S1024_S1x1024 (ix2 (0 : Fin 1) k) = a (ix1 k) := by
  pointwise

theorem w_cast (a : Vec Ideal S1x1536x1024 .f32) (k : Fin 1536) (d : Fin 1024) :
    (truncf .bf16 (shapeCast S1536x1024 a shapeCasts_S1x1536x1024_S1536x1024) bitsLt_bf16_f32 : FVec Ideal S1536x1024 .bf16) (ix2 k d) = a (ix3 0 k d) := by
  pointwise

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 0).val, 0] :=
  (by decide +kernel : ∀ t : Fin grid0.N, _)
theorem idx2 : ∀ t : Fin cfg0.N, win0_2.index t = ![(grid0.coords t 0).val, 0] :=
  (by decide +kernel : ∀ t : Fin grid0.N, _)
theorem idx3 : ∀ t : Fin cfg0.N, win0_3.index t = ![(grid0.coords t 0).val, 0] :=
  (by decide +kernel : ∀ t : Fin grid0.N, _)
theorem idx4 : ∀ t : Fin cfg0.N, win0_4.index t = ![(grid0.coords t 0).val, 3] :=
  (by decide +kernel : ∀ t : Fin grid0.N, _)
theorem idx5 : ∀ t : Fin cfg0.N, win0_5.index t = ![(grid0.coords t 0).val, 0] :=
  (by decide +kernel : ∀ t : Fin grid0.N, _)
theorem idx6 : ∀ t : Fin cfg0.N, win0_6.index t = ![(grid0.coords t 0).val, 9] :=
  (by decide +kernel : ∀ t : Fin grid0.N, _)
theorem idx7 : ∀ t : Fin cfg0.N, win0_7.index t = ![(grid0.coords t 0).val, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![0, 0] :=
  (by decide +kernel : ∀ t : Fin grid0.N, _)
theorem idx11 : ∀ t : Fin cfg0.N, win0_11.index t = ![0, 0] :=
  (by decide +kernel : ∀ t : Fin grid0.N, _)
theorem idx12 : ∀ t : Fin cfg0.N, win0_12.index t = ![0, 0] :=
  (by decide +kernel : ∀ t : Fin grid0.N, _)
theorem idx13 : ∀ t : Fin cfg0.N, win0_13.index t = ![(grid0.coords t 0).val, 0] :=
  (by decide +kernel : ∀ t : Fin grid0.N, _)

variable (t : Fin cfg0.N) (r : Fin 512) (R : Fin 16384) (hR : R.val = 512 * (grid0.coords t 0).val + r.val)
include hR

theorem blk0 (k : Fin 1024) : (iblk m c 0 t : Vec Ideal S512x1024 .bf16) (ix2 r k) = (m ((c : Thread nD τ).loc main_arg0) : Vec Ideal S16384x1024 .bf16) (ix2 R k) := by
  blk_simp [iblk]
  rw [show (win0_0.blk t).view.emb (ix2 r k) = ix2 R k by blk_ext [idx0]]
  exact congrFun (V_main_arg0 m c) _

theorem blk1 (k : Fin 1024) : (iblk m c 1 t : Vec Ideal S512x1024 .bf16) (ix2 r k) = (m ((c : Thread nD τ).loc main_arg1) : Vec Ideal S16384x1024 .bf16) (ix2 R k) := by
  blk_simp [iblk]
  rw [show (win0_1.blk t).view.emb (ix2 r k) = ix2 R k by blk_ext [idx1]]
  exact congrFun (V_main_arg1 m c) _

theorem blk2 (k : Fin 1024) : (iblk m c 2 t : Vec Ideal S512x1024 .bf16) (ix2 r k) = (m ((c : Thread nD τ).loc main_arg2) : Vec Ideal S16384x1024 .bf16) (ix2 R k) := by
  blk_simp [iblk]
  rw [show (win0_2.blk t).view.emb (ix2 r k) = ix2 R k by blk_ext [idx2]]
  exact congrFun (V_main_arg2 m c) _

theorem blk3 (k : Fin 1024) : (iblk m c 3 t : Vec Ideal S512x1024 .bf16) (ix2 r k) = (m ((c : Thread nD τ).loc main_arg3) : Vec Ideal S16384x1024 .bf16) (ix2 R k) := by
  blk_simp [iblk]
  rw [show (win0_3.blk t).view.emb (ix2 r k) = ix2 R k by blk_ext [idx3]]
  exact congrFun (V_main_arg3 m c) _

theorem blk5 (k : Fin 512) : (iblk m c 5 t : Vec Ideal S512x512 .f32) (ix2 r k) = (m ((c : Thread nD τ).loc main_arg5) : Vec Ideal S16384x512 .f32) (ix2 R k) := by
  blk_simp [iblk]
  rw [show (win0_5.blk t).view.emb (ix2 r k) = ix2 R k by blk_ext [idx5]]
  exact congrFun (V_main_arg5 m c) _

theorem blk7 (k : Fin 1024) : (iblk m c 7 t : Vec Ideal S512x1024 .f32) (ix2 r k) = (m ((c : Thread nD τ).loc main_arg6) : Vec Ideal S16384x1024 .f32) (ix2 R k) := by
  blk_simp [iblk]
  rw [show (win0_7.blk t).view.emb (ix2 r k) = ix2 R k by blk_ext [idx7]]
  exact congrFun (V_main_arg6 m c) _

theorem blk4 (k : Fin 1024) : (X0_4 m c t : Vec Ideal S512x1024 .f32) (ix2 r k)
    = (m ((c : Thread nD τ).loc main_arg4) : Vec Ideal S16384x5248 .f32) (ix2 R (⟨3072 + k.val, by omega⟩ : Fin 5248)) := by
  unfold X0_4 Pipeline.Window.fill
  rw [dif_pos (moved0_4 t (ix2 r k))]
  blk_simp [iblk]
  refine (congrArg (V m c main_arg4) (?_ : _ = ix2 R (⟨3072 + k.val, by omega⟩ : Fin 5248))).trans (congrFun (V_main_arg4 m c) _)
  blk_ext [idx4]

theorem blk6 (k : Fin 512) : (X0_6 m c t : Vec Ideal S512x512 .f32) (ix2 r k)
    = (m ((c : Thread nD τ).loc main_arg4) : Vec Ideal S16384x5248 .f32) (ix2 R (⟨4608 + k.val, by omega⟩ : Fin 5248)) := by
  unfold X0_6 Pipeline.Window.fill
  rw [dif_pos (moved0_6 t (ix2 r k))]
  blk_simp [iblk]
  refine (congrArg (V m c main_arg4) (?_ : _ = ix2 R (⟨4608 + k.val, by omega⟩ : Fin 5248))).trans (congrFun (V_main_arg4 m c) _)
  blk_ext [idx6]

omit hR

theorem blk8 (k : Fin 1024) : (iblk m c 8 t : Vec Ideal S1x1024 .f32) (ix2 0 k) = (m ((c : Thread nD τ).loc main_arg7) : Vec Ideal S1x1024 .f32) (ix2 0 k) := by
  blk_simp [iblk]
  rw [show (win0_8.blk t).view.emb (ix2 0 k) = ix2 (0 : Fin 1) k by blk_ext [idx8]]
  exact (congrFun (V_g m c) _).trans (two_casts _ k)

theorem blk9 (k : Fin 1024) : (iblk m c 9 t : Vec Ideal S1x1024 .f32) (ix2 0 k) = (m ((c : Thread nD τ).loc main_arg8) : Vec Ideal S1x1024 .f32) (ix2 0 k) := by
  blk_simp [iblk]
  rw [show (win0_9.blk t).view.emb (ix2 0 k) = ix2 (0 : Fin 1) k by blk_ext [idx9]]
  exact (congrFun (V_b m c) _).trans (two_casts _ k)

theorem blk10 (j l : Fin 128) : (iblk m c 10 t : Vec Ideal S128x128 .bf16) (ix2 j l) = ones j l := by
  blk_simp [iblk]
  rw [show (win0_10.blk t).view.emb (ix2 j l) = ix2 j l by blk_ext [idx10]]
  exact (congrFun (V_bd m c) _).trans (bdm_at j l)

theorem blk11 (k : Fin 1536) (d : Fin 1024) : (iblk m c 11 t : Vec Ideal S1536x1024 .bf16) (ix2 k d) = (m ((c : Thread nD τ).loc main_arg9) : Vec Ideal S1x1536x1024 .f32) (ix3 0 k d) := by
  blk_simp [iblk]
  rw [show (win0_11.blk t).view.emb (ix2 k d) = ix2 k d by blk_ext [idx11]]
  exact (congrFun (V_w m c) _).trans (w_cast _ k d)

theorem blk12 (k : Fin 1024) : (iblk m c 12 t : Vec Ideal S1x1024 .f32) (ix2 0 k) = (m ((c : Thread nD τ).loc main_arg10) : Vec Ideal S1024 .f32) (ix1 k) := by
  blk_simp [iblk]
  rw [show (win0_12.blk t).view.emb (ix2 0 k) = ix2 (0 : Fin 1) k by blk_ext [idx12]]
  exact (congrFun (V_fg m c) _).trans (fg_cast _ k)

/-- THE KERNEL'S RESULT ARRAY is every token's row. -/
theorem final : (dats m 0 c).arrAt 13 cfg0.N = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp
  rw [after0_13, eq_ix2 (n0 := 512) (n1 := 1024) y]
  have ht : (grid0.coords t 0).val < 32 := (grid0.coords t 0).isLt
  have hy : (y 0).val < 512 := (y 0).isLt
  rw [show (win0_13.blk t).view.emb (ix2 (y 0) (y 1)) = ix2 (⟨512 * (grid0.coords t 0).val + (y 0).val, by omega⟩ : Fin 16384) (y 1) by
      blk_ext [idx13]]
  unfold outsAt0
  rw [out_eq]
  refine (body_row _ _ _ _ _ _ _ _ _ _ _ _ _ _ (y 0) (blk10 m c t) (fun k d => (m ((c : Thread nD τ).loc main_arg9) : Vec Ideal S1x1536x1024 .f32) (ix3 0 k d))
    (fun k d => (w0_at _ k d).trans (blk11 m c t _ d)) (fun k d => (w1_at _ k d).trans (blk11 m c t _ d)) (y 1)).trans ?_
  generalize hr : (⟨512 * (grid0.coords t 0).val + (y 0).val, by omega⟩ : Fin 16384) = R
  have hR : R.val = 512 * (grid0.coords t 0).val + (y 0).val := by rw [← hr]
  simp only [blk0 m c t (y 0) R hR, blk1 m c t (y 0) R hR, blk2 m c t (y 0) R hR, blk3 m c t (y 0) R hR, blk4 m c t (y 0) R hR,
    blk5 m c t (y 0) R hR, blk6 m c t (y 0) R hR, blk7 m c t (y 0) R hR, blk8 m c t, blk9 m c t, blk12 m c t]
  rfl

end Cert.Odd

end
-- ==== Proof.Odd.Ref.lean ====
/- The last odd call's reference read down to the same result. -/
module

public import proofs.«01_k».proof.Proof.Odd.Arr
public import proofs.«01_k».proof.Proof.Gen.Reference3Ideal.Read

@[expose] public section

set_option maxRecDepth 16384

noncomputable section

namespace Cert.Odd.Ref

open Cert.Even (nrm silu)
open Cert.Reference3Ideal Cert.Reference3Ideal.Gen Cert.Reference3Ideal.Read Idealize.ShloMosaic Idealize.ShloMosaic.Pointwise

variable (x0 x1 x2 x3 : Vec Ideal S16384x1024 .bf16) (x4 : Vec Ideal S16384x5248 .f32) (x5 : Vec Ideal S16384x512 .f32)
  (x6 : Vec Ideal S16384x1024 .f32) (x7 x8 : Vec Ideal S1x1024 .f32) (x9 : Vec Ideal S1x1536x1024 .f32) (x10 : Vec Ideal S1024 .f32)
  (R : Fin 16384)

/-- Column `i` of head `a`. -/
def col (a : Fin 16) (i : Fin 64) : Fin 1024 := ⟨a.val * 64 + i.val, by omega⟩

/-- The branches' sum by heads. -/
theorem v5_at (a : Fin 16) (i : Fin 64) : val_main_v5 (F := Ideal) x0 x1 (ix3 R a i) = x0 (ix2 R (col a i)) + x1 (ix2 R (col a i)) := by
  pointwise [val_main_v5, val_main_v4, val_main_v3, val_main_v2, col]

/-- A head's normalised entries. -/
theorem v27_at (a : Fin 16) (i : Fin 64) : val_main_v27 (F := Ideal) x0 x1 (ix3 R a i)
    = unit (fun j => val_main_v5 (F := Ideal) x0 x1 (ix3 R a j)) i := by
  unfold val_main_v27 val_main_v26 val_main_v25 val_main_v24 val_main_v22 val_main_v21 val_main_v20 val_main_v18 val_main_v17 val_main_v16
    val_main_v15 val_main_v14 val_main_v13 val_main_v11 val_main_v10
  generalize val_main_v5 (F := Ideal) x0 x1 = y
  pointwise [val_main_v12, val_main_v19, val_main_v23, val_main_cst, val_main_cst_0, val_main_cst_1, val_main_cst_2, val_main_cst_3, unit, cen]

/-- Scaled and shifted, the two bonuses added. -/
theorem v39_at (a : Fin 16) (i : Fin 64) : val_main_v39 (F := Ideal) x0 x1 x2 x3 x7 x8 (ix3 R a i)
    = val_main_v27 (F := Ideal) x0 x1 (ix3 R a i) * x7 (ix2 0 (col a i)) + x8 (ix2 0 (col a i)) + x2 (ix2 R (col a i)) + x3 (ix2 R (col a i)) := by
  unfold val_main_v39 val_main_v36 val_main_v33 val_main_v30
  generalize val_main_v27 (F := Ideal) x0 x1 = y
  pointwise [val_main_v38, val_main_v37, val_main_v35, val_main_v34, val_main_v32, val_main_v31, val_main_v29, val_main_v28, val_main_v9,
    val_main_v8, val_main_v7, val_main_v6, col]

theorem v40_at (k : Fin 1024) : val_main_v40 (F := Ideal) x0 x1 x2 x3 x7 x8 (ix2 R k)
    = val_main_v39 (F := Ideal) x0 x1 x2 x3 x7 x8 (ix3 R (⟨k.val / 64, by omega⟩ : Fin 16) (⟨k.val % 64, by omega⟩ : Fin 64)) := by
  unfold val_main_v40
  generalize val_main_v39 (F := Ideal) x0 x1 x2 x3 x7 x8 = y
  pointwise

theorem v41_at (k : Fin 1024) : val_main_v41 (F := Ideal) x4 (ix2 R k) = silu (x4 (ix2 R (⟨3072 + k.val, by omega⟩ : Fin 5248))) := by
  pointwise [val_main_v41, val_main_call0_v5, val_main_call0_v4, val_main_call0_cst_0, val_main_call0_v3, val_main_call0_v2,
    val_main_call0_cst, val_main_call0_v1, val_main_call0_v0, val_main_v0]
  rfl

theorem v43_at (k : Fin 512) : val_main_v43 (F := Ideal) x4 (ix2 R k) = silu (x4 (ix2 R (⟨4608 + k.val, by omega⟩ : Fin 5248))) := by
  pointwise [val_main_v43, val_main_call1_v5, val_main_call1_v4, val_main_call1_cst_0, val_main_call1_v3, val_main_call1_v2,
    val_main_call1_cst, val_main_call1_v1, val_main_call1_v0, val_main_v1]
  rfl

/-- The first gated branch. -/
theorem v42_at (k : Fin 1024) : val_main_v42 (F := Ideal) x0 x1 x2 x3 x4 x7 x8 (ix2 R k)
    = brC (fun j => x0 (ix2 R j)) (fun j => x1 (ix2 R j)) (fun j => x2 (ix2 R j)) (fun j => x3 (ix2 R j))
        (fun j => x4 (ix2 R (⟨3072 + j.val, by omega⟩ : Fin 5248))) (fun j => x7 (ix2 0 j)) (fun j => x8 (ix2 0 j)) k := by
  have e : col ⟨k.val / 64, by omega⟩ ⟨k.val % 64, by omega⟩ = k := Fin.ext (by show k.val / 64 * 64 + k.val % 64 = k.val; omega)
  have h : val_main_v42 (F := Ideal) x0 x1 x2 x3 x4 x7 x8 (ix2 R k)
      = val_main_v40 (F := Ideal) x0 x1 x2 x3 x7 x8 (ix2 R k) * val_main_v41 (F := Ideal) x4 (ix2 R k) := by
    unfold val_main_v42
    generalize val_main_v40 (F := Ideal) x0 x1 x2 x3 x7 x8 = y
    generalize val_main_v41 (F := Ideal) x4 = z
    pointwise
  rw [h, v40_at, v41_at, v39_at, v27_at, e]
  simp only [v5_at]
  rfl

theorem v44_at (k : Fin 512) : val_main_v44 (F := Ideal) x4 x5 (ix2 R k)
    = brD (fun j => x5 (ix2 R j)) (fun j => x4 (ix2 R (⟨4608 + j.val, by omega⟩ : Fin 5248))) k := by
  have h : val_main_v44 (F := Ideal) x4 x5 (ix2 R k) = x5 (ix2 R k) * val_main_v43 (F := Ideal) x4 (ix2 R k) := by
    unfold val_main_v44
    generalize val_main_v43 (F := Ideal) x4 = z
    pointwise
  rw [h, v43_at]
  rfl

/-- The output projection and the residual. -/
theorem v48_at (d : Fin 1024) : val_main_v48 (F := Ideal) x0 x1 x2 x3 x4 x5 x6 x7 x8 x9 (ix2 R d)
    = mixed (fun j => x0 (ix2 R j)) (fun j => x1 (ix2 R j)) (fun j => x2 (ix2 R j)) (fun j => x3 (ix2 R j))
        (fun j => x4 (ix2 R (⟨3072 + j.val, by omega⟩ : Fin 5248))) (fun j => x5 (ix2 R j))
        (fun j => x4 (ix2 R (⟨4608 + j.val, by omega⟩ : Fin 5248))) (fun j => x6 (ix2 R j)) (fun j => x7 (ix2 0 j)) (fun j => x8 (ix2 0 j))
        (fun k d => x9 (ix3 0 k d)) d := by
  have h42 := v42_at x0 x1 x2 x3 x4 x7 x8 R
  have h44 := v44_at x4 x5 R
  unfold val_main_v48 val_main_v47 val_main_v45
  generalize val_main_v42 (F := Ideal) x0 x1 x2 x3 x4 x7 x8 = y at h42 ⊢
  generalize val_main_v44 (F := Ideal) x4 x5 = z at h44 ⊢
  pointwise [val_main_v46]
  rw [← add_assoc]
  simp only [h42, h44]
  rfl

/-- THE REFERENCE'S RESULT. -/
theorem val_res : val_main_v61 (F := Ideal) x0 x1 x2 x3 x4 x5 x6 x7 x8 x9 x10 = res x0 x1 x2 x3 x4 x5 x6 x7 x8 x9 x10 := by
  suffices h : ∀ (R : Fin 16384) (d : Fin 1024), val_main_v61 (F := Ideal) x0 x1 x2 x3 x4 x5 x6 x7 x8 x9 x10 (ix2 R d)
      = res x0 x1 x2 x3 x4 x5 x6 x7 x8 x9 x10 (ix2 R d) by
    funext y
    rw [eq_ix2 (n0 := 16384) (n1 := 1024) y]
    exact h (y 0) (y 1)
  intro R d
  have h48 := v48_at x0 x1 x2 x3 x4 x5 x6 x7 x8 x9 R
  unfold val_main_v61 val_main_v58 val_main_v57 val_main_v56 val_main_v55 val_main_v53 val_main_v51 val_main_v50 val_main_v49
  generalize val_main_v48 (F := Ideal) x0 x1 x2 x3 x4 x5 x6 x7 x8 x9 = y at h48 ⊢
  pointwise [val_main_v60, val_main_v59, val_main_v54, val_main_v52, val_main_cst_4, val_main_cst_5, val_main_cst_6]
  simp only [h48]
  rfl

end Cert.Odd.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_weight
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite
public import proofs.«01_k».proof.Proof.Fnet.Bits
public import proofs.«01_k».proof.Proof.Fnet.Ref
public import proofs.«01_k».proof.Proof.Even.Ref
public import proofs.«01_k».proof.Proof.Proj.Ref
public import proofs.«01_k».proof.Proof.Odd.Ref
public import proofs.«01_k».proof.Proof.Wts.Ref
public import Idealize.ShloMosaic.Adequacy
public import Idealize.ShloMosaic.Init

@[expose] public section

noncomputable section

namespace Cert.Proof

open Idealize.ShloMosaic Idealize.SL.Sem

/-- The first layer: the call's array is the reference's. -/
theorem even : Cert.algebraic_KernelIdeal_ReferenceIdeal := by
  intro m ρ m' ρ' _ hag
  refine ⟨fun c => Cert.Even.res (Cert.Even.insOf m c), ?_, ?_⟩
  · exact (θ_run Cert.KernelIdeal.defs _ _).mono (fun _ h c => ⟨(h c).1.trans (Cert.Even.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hag c
    refine ((Cert.ReferenceIdeal.Read.val_main_v93_eq m' c).trans (Cert.Even.Ref.val_res ..)).trans ?_
    rw [h0, h1, h2, h3, h4, h5, h6, h7, h8]

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The input projection of the second layer: the call's array is the reference's. -/
theorem proj : Cert.algebraic_Kernel2Ideal_Reference2Ideal := by
  intro m ρ m' ρ' _ hag
  refine ⟨fun c => Cert.Proj.res (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · exact (θ_run Cert.Kernel2Ideal.defs _ _).mono (fun _ h c => ⟨(h c).1.trans (Cert.Proj.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2⟩ := hag c
    refine ((Cert.Reference2Ideal.Read.val_main_v22_eq ..).trans (Cert.Proj.Ref.val_res ..)).trans ?_
    rw [h0, h1, h2]

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The end of the second layer and the last scaling: the call's array is the reference's. -/
theorem odd : Cert.algebraic_Kernel3Ideal_Reference3Ideal := by
  intro m ρ m' ρ' _ hag
  refine ⟨fun c => Cert.Odd.res (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)), ?_, ?_⟩
  · exact (θ_run Cert.Kernel3Ideal.defs _ _).mono (fun _ h c => ⟨(h c).1.trans (Cert.Odd.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5, h6, h7, h8, h9, h10⟩ := hag c
    refine ((Cert.Reference3Ideal.Read.val_main_v61_eq m' c).trans (Cert.Odd.Ref.val_res ..)).trans ?_
    rw [h0, h1, h2, h3, h4, h5, h6, h7, h8, h9, h10]

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The mixing weights: of a finite weight the call's array is the reference's. -/
theorem wts : Cert.algebraic_Kernel4Ideal_Reference4Ideal_pre_finite_weight := by
  intro m ρ m' ρ' hpre hag
  refine ⟨fun c => Cert.Wts.res (m ((c.tc : Thread Cert.Kernel4Ideal.nD Cert.Kernel4Ideal.τ).loc Cert.Kernel4Ideal.main_arg0)), ?_, ?_⟩
  · exact (θ_run Cert.Kernel4Ideal.defs _ _).mono
      (fun _ h c => ⟨(h c).1.trans (Cert.Wts.final m c (Cert.Wts.Ref.real_of_pre _ (hpre c))), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    refine ((Cert.Reference4Ideal.Read.val_main_v27_eq ..).trans (Cert.Wts.Ref.val_res ..)).trans ?_
    rw [hag c]

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The Fourier transform: of finite arguments the call's array is the reference's. -/
theorem fnet : Cert.algebraic_Kernel5Ideal_Reference5Ideal_pre_finite := by
  intro m ρ m' ρ' hpre hag
  refine ⟨fun c => Cert.Fnet.res (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run Cert.Kernel5Ideal.defs _ _).mono
      (fun _ h c => ⟨(h c).1.trans (Cert.Fnet.final m c (Cert.Fnet.Ref.real_of_pre _ _ (hpre c))), (h c).2⟩)
      (Cert.Fnet.run_named m ρ)
  · refine (θ_run Cert.Reference5Ideal.defs _ _).mono (fun _ h c => ⟨(h c).1.trans ?_, (h c).2⟩)
      (Cert.Reference5Ideal.Value.run (F := Ideal) m' ρ')
    refine (Cert.Reference5Ideal.Read.val_main_v28_eq ..).trans ?_
    rw [(hag c).1, (hag c).2]
    exact Cert.Fnet.Ref.val_res (Cert.Fnet.Ref.real_of_pre _ _ (hpre c))

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_weight.Gen.facts, Cert.Pre_finite.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ,
  fun m ρ _ => Cert.Kernel4Ideal.Gen.frame m ρ, frame_reference4, fun m ρ _ => frame_reference4 m ρ trivial,
  fun m ρ _ => Cert.Fnet.frame_bits m ρ, fun m ρ _ => Cert.Fnet.frame_ideal m ρ,
  fun m ρ _ => Cert.Fnet.frame_ideal m ρ, frame_reference5, fun m ρ _ => frame_reference5 m ρ trivial,
  trivial, even, trivial, proj, trivial, odd, trivial, wts, trivial, fnet⟩

end Cert.Proof

end
